-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![256, 512]⟩ ⟨2, ![256, 8192]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S256x512 : Shape := ⟨2, ![256, 512]⟩
abbrev S512x256 : Shape := ⟨2, ![512, 256]⟩
abbrev S4x8x64x256 : Shape := ⟨4, ![4, 8, 64, 256]⟩
abbrev S4x4 : Shape := ⟨2, ![4, 4]⟩
abbrev S_ : Shape := ⟨0, ![]⟩
abbrev S64x256 : Shape := ⟨2, ![64, 256]⟩
abbrev S64x512 : Shape := ⟨2, ![64, 512]⟩
abbrev S1x1x64x256 : Shape := ⟨4, ![1, 1, 64, 256]⟩
abbrev S1x1 : Shape := ⟨2, ![1, 1]⟩

abbrev nBuf : Space → Nat
  | .hbm => 4
  | .vmem => 5
  | .smem => 0
  | _ => 0

abbrev bufTy : (tb : Table) → Fin (tcTables nBuf tb) → BufTy
  | .hbm, ⟨0, _⟩ => ⟨S256x256, .f32⟩
  | .hbm, ⟨1, _⟩ => ⟨S256x512, .f32⟩
  | .hbm, ⟨2, _⟩ => ⟨S512x256, .f32⟩
  | .hbm, ⟨3, _⟩ => ⟨S256x256, .f32⟩
  | .local _ .vmem, ⟨0, _⟩ => ⟨S256x256, .f32⟩
  | .local _ .vmem, ⟨1, _⟩ => ⟨S256x512, .f32⟩
  | .local _ .vmem, ⟨2, _⟩ => ⟨S512x256, .f32⟩
  | .local _ .vmem, ⟨3, _⟩ => ⟨S256x256, .f32⟩
  | .local _ .vmem, ⟨4, _⟩ => ⟨S4x8x64x256, .bf16⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.xori v2 c1_i32_0
  let c1_i32_3 : BitVec 32 := 1#32
  let v11 : BitVec 32 := Scalar.muli v4 c1_i32_3
  let v12 : BitVec 32 := Scalar.addi c0_i32 v11
  v12.toNat
def k0_dev2 (d0 : Dev nD) : Nat :=
  let c0_i32_6 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1 : BitVec 32 := 3#32
  let v5 : BitVec 32 := Scalar.addi v2 c3_i32_1
  let c2_i32 : BitVec 32 := 2#32
  let c3_i32 : BitVec 32 := 3#32
  let v3 : BitVec 32 := Scalar.andi v2 c3_i32
  let v6 : BitVec 32 := Scalar.muli c2_i32 v3
  let v7 : BitVec 32 := Scalar.subi v5 v6
  let c1_i32_5 : BitVec 32 := 1#32
  let v13 : BitVec 32 := Scalar.muli v7 c1_i32_5
  let v14 : BitVec 32 := Scalar.addi c0_i32_6 v13
  v14.toNat
def k0_dev3 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v8 : BitVec 32 := Scalar.xori v2 c4_i32
  let c1_i32_8 : BitVec 32 := 1#32
  let v15 : BitVec 32 := Scalar.muli v8 c1_i32_8
  let v16 : BitVec 32 := Scalar.addi c0_i32_9 v15
  v16.toNat
def k0_dev4 (d0 : Dev nD) : Nat :=
  let c0_i32_12 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v9 : BitVec 32 := Scalar.xori v2 c8_i32
  let c1_i32_11 : BitVec 32 := 1#32
  let v17 : BitVec 32 := Scalar.muli v9 c1_i32_11
  let v18 : BitVec 32 := Scalar.addi c0_i32_12 v17
  v18.toNat
def k0_dev5 (d0 : Dev nD) : Nat :=
  let c0_i32_34 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.xori v2 c1_i32_0
  let c1_i32_33 : BitVec 32 := 1#32
  let v37 : BitVec 32 := Scalar.muli v4 c1_i32_33
  let v38 : BitVec 32 := Scalar.addi c0_i32_34 v37
  v38.toNat
def k0_dev6 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1 : BitVec 32 := 3#32
  let v5 : BitVec 32 := Scalar.addi v2 c3_i32_1
  let c2_i32 : BitVec 32 := 2#32
  let c3_i32 : BitVec 32 := 3#32
  let v3 : BitVec 32 := Scalar.andi v2 c3_i32
  let v6 : BitVec 32 := Scalar.muli c2_i32 v3
  let v7 : BitVec 32 := Scalar.subi v5 v6
  let c1_i32_54 : BitVec 32 := 1#32
  let v59 : BitVec 32 := Scalar.muli v7 c1_i32_54
  let v60 : BitVec 32 := Scalar.addi c0_i32_55 v59
  v60.toNat
def k0_dev7 (d0 : Dev nD) : Nat :=
  let c0_i32_76 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v8 : BitVec 32 := Scalar.xori v2 c4_i32
  let c1_i32_75 : BitVec 32 := 1#32
  let v81 : BitVec 32 := Scalar.muli v8 c1_i32_75
  let v82 : BitVec 32 := Scalar.addi c0_i32_76 v81
  v82.toNat
def k0_dev8 (d0 : Dev nD) : Nat :=
  let c0_i32_97 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v9 : BitVec 32 := Scalar.xori v2 c8_i32
  let c1_i32_96 : BitVec 32 := 1#32
  let v103 : BitVec 32 := Scalar.muli v9 c1_i32_96
  let v104 : BitVec 32 := Scalar.addi c0_i32_97 v103
  v104.toNat
def k0_dev9 (d0 : Dev nD) : Nat :=
  let c0_i32_146 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1 : BitVec 32 := 3#32
  let v5 : BitVec 32 := Scalar.addi v2 c3_i32_1
  let c2_i32 : BitVec 32 := 2#32
  let c3_i32 : BitVec 32 := 3#32
  let v3 : BitVec 32 := Scalar.andi v2 c3_i32
  let v6 : BitVec 32 := Scalar.muli c2_i32 v3
  let v7 : BitVec 32 := Scalar.subi v5 v6
  let c1_i32_145 : BitVec 32 := 1#32
  let v135 : BitVec 32 := Scalar.muli v7 c1_i32_145
  let v136 : BitVec 32 := Scalar.addi c0_i32_146 v135
  v136.toNat
def k0_dev10 (d0 : Dev nD) : Nat :=
  let c0_i32_195 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v8 : BitVec 32 := Scalar.xori v2 c4_i32
  let c1_i32_194 : BitVec 32 := 1#32
  let v167 : BitVec 32 := Scalar.muli v8 c1_i32_194
  let v168 : BitVec 32 := Scalar.addi c0_i32_195 v167
  v168.toNat
def k0_dev11 (d0 : Dev nD) : Nat :=
  let c0_i32_244 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v9 : BitVec 32 := Scalar.xori v2 c8_i32
  let c1_i32_243 : BitVec 32 := 1#32
  let v199 : BitVec 32 := Scalar.muli v9 c1_i32_243
  let v200 : BitVec 32 := Scalar.addi c0_i32_244 v199
  v200.toNat
def k0_dev12 (d0 : Dev nD) : Nat :=
  let c0_i32_293 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.xori v2 c1_i32_0
  let c1_i32_292 : BitVec 32 := 1#32
  let v231 : BitVec 32 := Scalar.muli v4 c1_i32_292
  let v232 : BitVec 32 := Scalar.addi c0_i32_293 v231
  v232.toNat
def k0_dev13 (d0 : Dev nD) : Nat :=
  let c0_i32_340 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v8 : BitVec 32 := Scalar.xori v2 c4_i32
  let c1_i32_339 : BitVec 32 := 1#32
  let v263 : BitVec 32 := Scalar.muli v8 c1_i32_339
  let v264 : BitVec 32 := Scalar.addi c0_i32_340 v263
  v264.toNat
def k0_dev14 (d0 : Dev nD) : Nat :=
  let c0_i32_389 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v9 : BitVec 32 := Scalar.xori v2 c8_i32
  let c1_i32_388 : BitVec 32 := 1#32
  let v295 : BitVec 32 := Scalar.muli v9 c1_i32_388
  let v296 : BitVec 32 := Scalar.addi c0_i32_389 v295
  v296.toNat
def k0_dev15 (d0 : Dev nD) : Nat :=
  let c0_i32_438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.xori v2 c1_i32_0
  let c1_i32_437 : BitVec 32 := 1#32
  let v327 : BitVec 32 := Scalar.muli v4 c1_i32_437
  let v328 : BitVec 32 := Scalar.addi c0_i32_438 v327
  v328.toNat
def k0_dev16 (d0 : Dev nD) : Nat :=
  let c0_i32_487 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1 : BitVec 32 := 3#32
  let v5 : BitVec 32 := Scalar.addi v2 c3_i32_1
  let c2_i32 : BitVec 32 := 2#32
  let c3_i32 : BitVec 32 := 3#32
  let v3 : BitVec 32 := Scalar.andi v2 c3_i32
  let v6 : BitVec 32 := Scalar.muli c2_i32 v3
  let v7 : BitVec 32 := Scalar.subi v5 v6
  let c1_i32_486 : BitVec 32 := 1#32
  let v359 : BitVec 32 := Scalar.muli v7 c1_i32_486
  let v360 : BitVec 32 := Scalar.addi c0_i32_487 v359
  v360.toNat
def k0_dev17 (d0 : Dev nD) : Nat :=
  let c0_i32_532 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v9 : BitVec 32 := Scalar.xori v2 c8_i32
  let c1_i32_531 : BitVec 32 := 1#32
  let v391 : BitVec 32 := Scalar.muli v9 c1_i32_531
  let v392 : BitVec 32 := Scalar.addi c0_i32_532 v391
  v392.toNat
def k0_dev18 (d0 : Dev nD) : Nat :=
  let c0_i32_581 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.xori v2 c1_i32_0
  let c1_i32_580 : BitVec 32 := 1#32
  let v423 : BitVec 32 := Scalar.muli v4 c1_i32_580
  let v424 : BitVec 32 := Scalar.addi c0_i32_581 v423
  v424.toNat
def k0_dev19 (d0 : Dev nD) : Nat :=
  let c0_i32_630 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1 : BitVec 32 := 3#32
  let v5 : BitVec 32 := Scalar.addi v2 c3_i32_1
  let c2_i32 : BitVec 32 := 2#32
  let c3_i32 : BitVec 32 := 3#32
  let v3 : BitVec 32 := Scalar.andi v2 c3_i32
  let v6 : BitVec 32 := Scalar.muli c2_i32 v3
  let v7 : BitVec 32 := Scalar.subi v5 v6
  let c1_i32_629 : BitVec 32 := 1#32
  let v455 : BitVec 32 := Scalar.muli v7 c1_i32_629
  let v456 : BitVec 32 := Scalar.addi c0_i32_630 v455
  v456.toNat
def k0_dev20 (d0 : Dev nD) : Nat :=
  let c0_i32_679 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v8 : BitVec 32 := Scalar.xori v2 c4_i32
  let c1_i32_678 : BitVec 32 := 1#32
  let v487 : BitVec 32 := Scalar.muli v8 c1_i32_678
  let v488 : BitVec 32 := Scalar.addi c0_i32_679 v487
  v488.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S256x256 : Shape := ⟨2, ![256, 256]⟩
abbrev S256x8192 : Shape := ⟨2, ![256, 8192]⟩
abbrev S8192x256 : Shape := ⟨2, ![8192, 256]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x8192, .f32⟩
  | .hbm, ⟨2, _⟩ => ⟨S8192x256, .f32⟩
  | .hbm, ⟨3, _⟩ => ⟨S256x8192, .f32⟩
  | .hbm, ⟨4, _⟩ => ⟨S_, .f32⟩
  | .hbm, ⟨5, _⟩ => ⟨S256x8192, .f32⟩
  | .hbm, ⟨6, _⟩ => ⟨S256x8192, .f32⟩
  | .hbm, ⟨7, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Proof.Steps.lean ====
/-
  The kernel's body read as a walk over its 16 exchanges.

  A chunk of 64 rows is summed over the 16 devices by four exchanges: at each one the device sends its current
  sum to a partner and adds the sum the partner sent. The printed body is the 16 exchanges (four chunks, four
  each) written out one after another; here each exchange is one definition over its chunk `c` and its step `s`,
  and `body_eq_walk` says that the printed body is these definitions in sequence.
-/
module

public import proofs.«01_k».proof.Proof.Gen.KernelIdeal
public import proofs.«01_k».proof.Proof.Gen.KernelIdeal.Skeleton

@[expose] public section

noncomputable section

namespace Cert.KernelIdeal.Reduce

open Cert.KernelIdeal Cert.KernelIdeal.Gen
open Idealize.ShloMosaic Idealize.ShloMosaic.TcCoe Idealize.SL.Sem

variable {F : FTy → Type} [FloatOps F]

/-- The kernel's programs, over the float values `F`. -/
abbrev KProg (F : FTy → Type) (α : Type) : Type 1 := Prog (TpuEff nD τ sig (Elt F) Λ₀ .tc) α

/-! ## Buffers, slots, semaphores -/

abbrev xB : Memref sig .tc .vmem S256x256 .f32 := Memref.whole cc0_stg0_0
abbrev w1B : Memref sig .tc .vmem S256x512 .f32 := Memref.whole cc0_stg1_0
abbrev w2B : Memref sig .tc .vmem S512x256 .f32 := Memref.whole cc0_stg2_0
abbrev outB : Memref sig .tc .vmem S256x256 .f32 := Memref.whole cc0_stg3_0
abbrev commB : Memref sig .tc .vmem S4x8x64x256 .bf16 := Memref.whole cc0_scratch0

/-- Slot `k` of chunk `c` lies inside the exchange buffer. -/
theorem slot_inb : ∀ (c : Fin 4) (k : Fin 8), ∀ a, (![c.val, k.val, 0, 0] : Fin 4 → Nat) a + S1x1x64x256.size a ≤ S4x8x64x256.size a := by
  decide

/-- The rectangle of slot `k` of chunk `c` in the exchange buffer: 64 rows of 256. -/
abbrev slotR (c : Fin 4) (k : Fin 8) : Rect S4x8x64x256 :=
  Rect.unit (s := S4x8x64x256) ![c.val, k.val, 0, 0] S1x1x64x256.size (slot_inb c k)

theorem slot_packed : ∀ (c : Fin 4) (k : Fin 8), (slotR c k).PackedRows (EltTy.packing .bf16) := by decide

theorem slot_words (c : Fin 4) (k : Fin 8) : (slotR c k).WholeWords (EltTy.packing .bf16) := (slot_packed c k).wholeWords

/-- Slot `k` of chunk `c` as the 64×256 array a transfer moves. -/
abbrev slotM (c : Fin 4) (k : Fin 8) : Memref sig .tc .vmem S64x256 .bf16 :=
  (commB.slice (slotR c k) (fun _ => rfl)).squeeze S64x256 squeezes_S1x1x64x256_S64x256

theorem slot_wordExact (c : Fin 4) (k : Fin 8) : (slotM c k).view.WordExact :=
  ((Memref.isWhole_whole cc0_scratch0).wordExact_slice rfl _ (slot_words c k)).reshape _ _

/-- The slot step `s` sends from. -/
abbrev srcK (s : Fin 4) : Fin 8 := ⟨2 * s.val, by omega⟩
/-- The slot the partner's sum of step `s` lands in. -/
abbrev dstK (s : Fin 4) : Fin 8 := ⟨2 * s.val + 1, by omega⟩

theorem sem_inb : ∀ (c s : Fin 4), ∀ a, (![c.val, s.val] : Fin 2 → Nat) a + S1x1.size a ≤ S4x4.size a := by decide

/-- The semaphores of chunk `c`, step `s`: the one the sender waits on, and the one its partner waits on. -/
abbrev sendS (c s : Fin 4) : DmaSems sig S_ :=
  (cc0_scratch1.slice (Rect.unit (s := S4x4) ![c.val, s.val] S1x1.size (sem_inb c s))).squeeze S_ squeezes_S1x1_S_
abbrev recvS (c s : Fin 4) : DmaSems sig S_ :=
  (cc0_scratch2.slice (Rect.unit (s := S4x4) ![c.val, s.val] S1x1.size (sem_inb c s))).squeeze S_ squeezes_S1x1_S_
/-- The runtime's barrier semaphore. -/
abbrev barS : Sem sig := (SemArray.scalar (sig.barrier 0 rfl) : Sems sig S_).sem

/-- The rows of chunk `c` in a 256-row array. -/
theorem rows_inb : ∀ c : Fin 4, ∀ a, (![64 * c.val, 0] : Fin 2 → Nat) a + S64x256.size a ≤ S256x256.size a := by decide
abbrev rowsR (c : Fin 4) : Rect S256x256 := Rect.unit (s := S256x256) ![64 * c.val, 0] S64x256.size (rows_inb c)

/-! ## The partners -/

/-- The device a printed chain names: the four the barrier signals, by axis, -/
def barDev (k : Fin 4) (d : Dev nD) : Dev nD :=
  ![(⟨k0_dev1 d, k0_dev1_lt d⟩ : Dev nD), ⟨k0_dev2 d, k0_dev2_lt d⟩, ⟨k0_dev3 d, k0_dev3_lt d⟩, ⟨k0_dev4 d, k0_dev4_lt d⟩] k

/-- and the sixteen the transfers name, by step and chunk. -/
def hopDev (s c : Fin 4) (d : Dev nD) : Dev nD :=
  ![![(⟨k0_dev5 d, k0_dev5_lt d⟩ : Dev nD), ⟨k0_dev6 d, k0_dev6_lt d⟩, ⟨k0_dev7 d, k0_dev7_lt d⟩, ⟨k0_dev8 d, k0_dev8_lt d⟩],
    ![⟨k0_dev9 d, k0_dev9_lt d⟩, ⟨k0_dev10 d, k0_dev10_lt d⟩, ⟨k0_dev11 d, k0_dev11_lt d⟩, ⟨k0_dev12 d, k0_dev12_lt d⟩],
    ![⟨k0_dev13 d, k0_dev13_lt d⟩, ⟨k0_dev14 d, k0_dev14_lt d⟩, ⟨k0_dev15 d, k0_dev15_lt d⟩, ⟨k0_dev16 d, k0_dev16_lt d⟩],
    ![⟨k0_dev17 d, k0_dev17_lt d⟩, ⟨k0_dev18 d, k0_dev18_lt d⟩, ⟨k0_dev19 d, k0_dev19_lt d⟩, ⟨k0_dev20 d, k0_dev20_lt d⟩]] s c

/-- The partner of device `d` along axis `k`: its number with the bits of 1, 3, 4 or 8 flipped. -/
def peer (k : Fin 4) (d : Dev nD) : Dev nD :=
  ⟨d.val ^^^ (![1, 3, 4, 8] : Fin 4 → ℕ) k, Nat.xor_lt_two_pow (n := 4) d.isLt (by fin_cases k <;> decide)⟩

/-- The axis chunk `c` uses at step `s`. -/
abbrev axis (c s : Fin 4) : Fin 4 := s + c

theorem barDev_eq : ∀ (k : Fin 4) (d : Dev nD), barDev k d = peer k d := by decide +kernel
theorem hopDev_eq : ∀ (s c : Fin 4) (d : Dev nD), hopDev s c d = peer (axis c s) d := by decide +kernel
theorem peer_peer : ∀ (k : Fin 4) (d : Dev nD), peer k (peer k d) = d := by decide +kernel

/-! ## The arithmetic -/

/-- One device's part of a chunk's result: the chunk's rows through both of its weight blocks. -/
def partialOf (w1 : FVec F S256x512 .f32) (w2 : FVec F S512x256 .f32) (x : FVec F S64x256 .f32) : FVec F S64x256 .f32 :=
  matmul dot_S64x512_S512x256_S64x256_1_0_0_1_n_n none
    (truncf .bf16 (maximumf
      (matmul dot_S64x256_S256x512_S64x512_1_0_0_1_n_n none
        (truncf .bf16 (shapeCast S64x256 x shapeCasts_S64x256_S64x256) bitsLt_bf16_f32)
        (truncf .bf16 (shapeCast S256x512 w1 shapeCasts_S256x512_S256x512) bitsLt_bf16_f32)
        (constant S64x512 .f32 0x00000000#32))
      (broadcast S64x512 (Scalar.ofBits .f32 0x00000000#32))) bitsLt_bf16_f32)
    (truncf .bf16 (shapeCast S512x256 w2 shapeCasts_S512x256_S512x256) bitsLt_bf16_f32)
    (constant S64x256 .f32 0x00000000#32)

/-- The sum a device sends, -/
def packed (a : FVec F S64x256 .f32) : FVec F S64x256 .bf16 := truncf .bf16 a bitsLt_bf16_f32
/-- and its own sum with a received one added. -/
def added (a : FVec F S64x256 .f32) (v : FVec F S64x256 .bf16) : FVec F S64x256 .f32 := addf a (extf .f32 v bitsLt_bf16_f32)

/-! ## The exchanges as programs -/

/-- Store a sum into the slot step `s` sends from (the slot is read first; the value read is not used). -/
def stageP (c s : Fin 4) (a : FVec F S64x256 .f32) : KProg F PUnit := do
  let _ ← Prog.lift (.load commB (slotR c (srcK s)).toLoadRect (View.loadsAt_vmem h_S1x1x64x256))
  Prog.lift (.store commB (slotR c (srcK s)) (shapeCast S1x1x64x256 (packed a) shapeCasts_S64x256_S1x1x64x256) Finset.univ
    (View.stores_vmem h_S1x1x64x256 ((Memref.isWhole_whole cc0_scratch0).storeExact_slice rfl _ (slot_packed c (srcK s))) (fun _ => rfl))
    (.inl rfl))

/-- Start the remote copy of step `s`. -/
def sendP (d : Dev nD) (c s : Fin 4) : KProg F PUnit :=
  Prog.lift (.enqueueDma (slotM c (srcK s)) (.remote (Dev.tc (hopDev s c d)) (slotM c (dstK s)) (.dma (sendS c s).sem)) (.dma (recvS c s).sem)
    (slot_wordExact c (srcK s)) (slot_wordExact c (dstK s)) ⟨⟨rfl, Or.inl rfl⟩, trivial⟩)

/-- Wait for the copy of step `s` to have left and for the partner's to have landed, and add what landed. -/
def landP (c s : Fin 4) (a : FVec F S64x256 .f32) : KProg F (FVec F S64x256 .f32) := do
  Prog.lift (.waitDma2 (sendS c s).sem (slotM c (dstK s)) (slotM c (srcK s)) (slot_wordExact c (dstK s)) (slot_wordExact c (srcK s)))
  Prog.lift (.waitDma2 (recvS c s).sem (slotM c (srcK s)) (slotM c (dstK s)) (slot_wordExact c (srcK s)) (slot_wordExact c (dstK s)))
  let v : Vec F S1x1x64x256 .bf16 ← Prog.lift (.load commB (slotR c (dstK s)).toLoadRect (View.loadsAt_vmem h_S1x1x64x256))
  pure (added a (shapeCast S64x256 v shapeCasts_S1x1x64x256_S64x256))

/-- Store a chunk's finished sum into its rows of the result. -/
def emitP (c : Fin 4) (a : FVec F S64x256 .f32) : KProg F PUnit := do
  let _ ← Prog.lift (.load outB (rowsR c).toLoadRect (View.loadsAt_vmem h_S64x256))
  Prog.lift (.store outB (rowsR c) a Finset.univ (View.stores_vmem_bits_univ h_S64x256 rfl) (.inl rfl))

/-- Read a chunk's rows of `x` and form the device's own part. -/
def partP (w1 : FVec F S256x512 .f32) (w2 : FVec F S512x256 .f32) (c : Fin 4) : KProg F (FVec F S64x256 .f32) := do
  let x : Vec F S64x256 .f32 ← Prog.lift (.load xB (rowsR c).toLoadRect (View.loadsAt_vmem h_S64x256))
  pure (partialOf w1 w2 x)

/-- A chunk's start: its own part, stored and sent. -/
def startP (d : Dev nD) (w1 : FVec F S256x512 .f32) (w2 : FVec F S512x256 .f32) (c : Fin 4) : KProg F (FVec F S64x256 .f32) := do
  let a ← partP w1 w2 c
  stageP c 0 a
  sendP d c 0
  pure a

/-- The first chunk's start waits for the four partners between its store and its copy. -/
def start0P (d : Dev nD) (w1 : FVec F S256x512 .f32) (w2 : FVec F S512x256 .f32) : KProg F (FVec F S64x256 .f32) := do
  let a ← partP w1 w2 0
  stageP 0 0 a
  semWaitWord barS 4#32
  sendP d 0 0
  pure a

/-- An exchange before the last: step `s` ends and step `s'` begins. -/
def midP (d : Dev nD) (c s s' : Fin 4) (a : FVec F S64x256 .f32) : KProg F (FVec F S64x256 .f32) := do
  let b ← landP c s a
  stageP c s' b
  sendP d c s'
  pure b

/-- The last exchange: step 3 ends and the chunk's result is stored. -/
def lastP (c : Fin 4) (a : FVec F S64x256 .f32) : KProg F PUnit := do
  let b ← landP c 3 a
  emitP c b

/-- The whole body. -/
def walkP : KProg F PUnit := do
  let d : Dev nD ← Prog.lift .deviceId
  semSignalWord (barDev 0 d) barS 1#32
  semSignalWord (barDev 1 d) barS 1#32
  semSignalWord (barDev 2 d) barS 1#32
  semSignalWord (barDev 3 d) barS 1#32
  let w1 : Vec F S256x512 .f32 ← Prog.lift (.load w1B (Rect.unit (s := S256x512) ![0, 0] S256x512.size inb_S256x512_S256x512_0_0).toLoadRect (View.loadsAt_vmem h_S256x512))
  let w2 : Vec F S512x256 .f32 ← Prog.lift (.load w2B (Rect.unit (s := S512x256) ![0, 0] S512x256.size inb_S512x256_S512x256_0_0).toLoadRect (View.loadsAt_vmem h_S512x256))
  let a0 ← start0P d w1 w2
  let a1 ← startP d w1 w2 1
  let a2 ← startP d w1 w2 2
  let a3 ← startP d w1 w2 3
  let a0 ← midP d 0 0 1 a0
  let a1 ← midP d 1 0 1 a1
  let a2 ← midP d 2 0 1 a2
  let a3 ← midP d 3 0 1 a3
  let a0 ← midP d 0 1 2 a0
  let a1 ← midP d 1 1 2 a1
  let a2 ← midP d 2 1 2 a2
  let a3 ← midP d 3 1 2 a3
  let a0 ← midP d 0 2 3 a0
  let a1 ← midP d 1 2 3 a1
  let a2 ← midP d 2 2 3 a2
  let a3 ← midP d 3 2 3 a3
  lastP 0 a0
  lastP 1 a1
  lastP 2 a2
  lastP 3 a3

set_option maxRecDepth 65536 in
/-- The printed body, at the buffers the launch passes it, is the walk. -/
theorem body_eq_walk :
    cc0_body (F := F) xB (Memref.isWhole_whole _) w1B (Memref.isWhole_whole _) w2B (Memref.isWhole_whole _) outB (Memref.isWhole_whole _)
      commB (Memref.isWhole_whole _) cc0_scratch1 cc0_scratch2 = walkP (F := F) := rfl

end Cert.KernelIdeal.Reduce

end
-- ==== Proof.Protocol.lean ====
/-
  The exchange protocol: which semaphore cells there are, what each hand-over carries, what a device owes when.

  Device `d` has a barrier cell and, for each exchange `(c, s)` (chunk `c`, step `s`), a send cell and a receive
  cell. Its barrier is raised once by each of its four partners; the partner on axis `j` hands over with it the slots
  `d` will write there along axis `j`. The send cell of an exchange hands the sent slot back, the receive cell hands
  over the slot with the partner's sum in it.

  The sixteen sends of a device happen at the times `4*s + c` of its program and the waits four times later, so the
  state between two exchanges is read off one number, the time.
-/
module

public import proofs.«01_k».proof.Proof.Steps
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Reduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Resources -/

/-- The protocol's rounds, with four duty names (the four partners of a barrier). -/
abbrev UX : Type := URounds (GSem nD τ sig) (Fin 4)
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

/-- An exchange: its chunk and its step. -/
abbrev Xch : Type := Fin 4 × Fin 4
/-- A device's cells: its barrier, a send cell for each exchange, a receive cell for each exchange. -/
abbrev Cells : Type := Unit ⊕ (Xch ⊕ Xch)

/-- The semaphores of the transfers, -/
abbrev xsem : Xch ⊕ Xch → SemLoc sig
  | .inl x => .dma (sendS x.1 x.2).sem
  | .inr x => .dma (recvS x.1 x.2).sem
/-- and of every cell. -/
abbrev csem : Cells → SemLoc sig
  | .inl _ => .reg barS
  | .inr k => xsem k

abbrev barCell (d : Dev nD) : GSem nD τ sig := ((d : Thread nD τ), .reg barS)
abbrev sendCell (d : Dev nD) (x : Xch) : GSem nD τ sig := ((d : Thread nD τ), .dma (sendS x.1 x.2).sem)
abbrev recvCell (d : Dev nD) (x : Xch) : GSem nD τ sig := ((d : Thread nD τ), .dma (recvS x.1 x.2).sem)
abbrev kcell (p : Dev nD × Cells) : GSem nD τ sig := ((p.1 : Thread nD τ), csem p.2)

theorem xsem_inj : Function.Injective xsem := by
  unfold Function.Injective; decide +kernel

theorem csem_inj : Function.Injective csem := by
  rintro (⟨⟩ | a) (⟨⟩ | b) h
  · rfl
  · rcases b with b | b <;> cases h
  · rcases a with a | a <;> cases h
  · exact congrArg _ (xsem_inj h)

theorem kcell_inj : Function.Injective (kcell : Dev nD × Cells → GSem nD τ sig) := by
  rintro ⟨d, k⟩ ⟨d', k'⟩ h
  have h₁ : d = d' := congrArg (fun g : GSem nD τ sig => g.1.1) h
  have h₂ : k = k' := csem_inj (congrArg Prod.snd h)
  rw [h₁, h₂]

/-- Which cell a semaphore is the cell of, if any. -/
def kind (sm : SemLoc sig) : Option Cells := Function.partialInv csem sm
theorem kind_csem (k : Cells) : kind (csem k) = some k := Function.partialInv_left csem_inj k

/-- The partner of an exchange. -/
abbrev mate (x : Xch) (d : Dev nD) : Dev nD := peer (axis x.1 x.2) d
theorem mate_mate (x : Xch) (d : Dev nD) : mate x (mate x d) = d := peer_peer _ _

/-- The credit of a transferred slot. -/
def N : ℕ := sig.dmaCredit .tc (Kind.tc.table .vmem) (slotM 0 0).view.buf S64x256 .bf16
theorem slot_credit (c : Fin 4) (k : Fin 8) : (slotM c k).view.dmaCredit = N := by
  unfold N View.dmaCredit; exact congrArg (fun b => sig.dmaCredit .tc (Kind.tc.table .vmem) b S64x256 .bf16) rfl
theorem slot_amount (c : Fin 4) (k : Fin 8) (q : DmaSem sig) : (slotM c k).view.amount (.dma q) = N := slot_credit c k
theorem N_pos : 0 < N := by
  rw [← slot_credit 0 0]; exact View.dmaCredit_pos _ (by decide)

/-! ## Contents -/

variable (m : (ℓ : Loc nD τ sig) → Buf (Elt F) ℓ)

/-- What the launch copies into a device's staging buffers. -/
def xIn (d : Dev nD) : FVec F S256x256 .f32 :=
  (win0_0.blk (0 : Fin 1)).view.read (Elt F) (m ((d : Thread nD τ).loc main_arg0))
def w1In (d : Dev nD) : FVec F S256x512 .f32 :=
  (win0_1.blk (0 : Fin 1)).view.read (Elt F) (m ((d : Thread nD τ).loc main_arg1))
def w2In (d : Dev nD) : FVec F S512x256 .f32 :=
  (win0_2.blk (0 : Fin 1)).view.read (Elt F) (m ((d : Thread nD τ).loc main_arg2))

/-- The rows of chunk `c`. -/
def rowsOf (c : Fin 4) (x : FVec F S256x256 .f32) : FVec F S64x256 .f32 := xB.view.readAt (Elt F) (rowsR c).toLoadRect x

/-- A device's sum of chunk `c` before step `n`: its own part, then at each step the partner's sum added. -/
def acc (c : Fin 4) : ℕ → Dev nD → FVec F S64x256 .f32
  | 0, d => partialOf (w1In m d) (w2In m d) (rowsOf c (xIn m d))
  | n + 1, d => added (acc c n d) (packed (acc c n (mate (c, Fin.ofNat 4 n) d)))

theorem acc_step (c s : Fin 4) (d : Dev nD) :
    acc m c (s.val + 1) d = added (acc m c s.val d) (packed (acc m c s.val (mate (c, s) d))) := by
  rw [acc]; simp

/-- A slot of device `d` holding `X`, -/
def slotAt (d : Dev nD) (c : Fin 4) (k : Fin 8) (X : FVec F S64x256 .bf16) : sProp 𝕄 :=
  owns (d : Thread nD τ) (slotM c k) fullShare X
/-- or holding anything. -/
def slotEx (d : Dev nD) (c : Fin 4) (k : Fin 8) : sProp 𝕄 := iprop(∃ X, slotAt (F := F) d c k X)

instance slotAt_storable (d : Dev nD) (c : Fin 4) (k : Fin 8) (X : FVec F S64x256 .bf16) :
    BI.Storable (upEmb : UEmb _ 𝕄) (slotAt d c k X) := by unfold slotAt; infer_instance
instance slotEx_storable (d : Dev nD) (c : Fin 4) (k : Fin 8) :
    BI.Storable (upEmb : UEmb _ 𝕄) (slotEx (F := F) d c k) := by unfold slotEx; infer_instance

/-! ## The schedule -/

/-- The slots the partner on axis `j` hands over: those of its steps on that axis, one for each chunk. -/
def barPay (d : Dev nD) (j : Fin 4) : sProp 𝕄 :=
  bigSep Finset.univ fun c : Fin 4 => slotEx (F := F) (peer j d) c (dstK (j - c))
def sendPay (d : Dev nD) (x : Xch) : sProp 𝕄 := slotAt d x.1 (srcK x.2) (packed (acc m x.1 x.2.val d))
def recvPay (d : Dev nD) (x : Xch) : sProp 𝕄 := slotAt d x.1 (dstK x.2) (packed (acc m x.1 x.2.val (mate x d)))

instance barPay_storable (d : Dev nD) (j : Fin 4) : BI.Storable (upEmb : UEmb _ 𝕄) (barPay (F := F) d j) := by
  unfold barPay; infer_instance
instance sendPay_storable (d : Dev nD) (x : Xch) : BI.Storable (upEmb : UEmb _ 𝕄) (sendPay m d x) := by
  unfold sendPay; infer_instance
instance recvPay_storable (d : Dev nD) (x : Xch) : BI.Storable (upEmb : UEmb _ 𝕄) (recvPay m d x) := by
  unfold recvPay; infer_instance

/-- What a cell hands over for a duty. -/
def payOf (d : Dev nD) (j : Fin 4) : Option Cells → sProp 𝕄
  | some (.inl _) => barPay (F := F) d j
  | some (.inr (.inl x)) => sendPay m d x
  | some (.inr (.inr x)) => recvPay m d x
  | none => iprop(emp)

instance payOf_storable (d : Dev nD) (j : Fin 4) (o : Option Cells) : BI.Storable (upEmb : UEmb _ 𝕄) (payOf m d j o) := by
  rcases o with _ | (_ | x | x) <;> unfold payOf <;> infer_instance

/-- The duties of a cell: a barrier four, a transfer's cell one. -/
def dutiesOf : Option Cells → Finset (Fin 4)
  | some (.inl _) => Finset.univ
  | some (.inr _) => {0}
  | none => ∅

/-- Its units per duty: a barrier one, a transfer's cell the slot's credit. -/
def unitsOf : Option Cells → ℕ
  | some (.inl _) => 1
  | _ => N

/-- One round for each cell. -/
def sched : Rounds.Schedule (GSem nD τ sig) (Fin 4) 𝕄 where
  duties g r := if r = 0 ∧ g.1.2 = .tc then dutiesOf (kind g.2) else ∅
  unitless _ := False
  amount g _ _ := unitsOf (kind g.2)
  payload g _ j := payOf m g.1.1 j (kind g.2)
  amount_pos g _ _ _ := by
    show 0 < unitsOf (kind g.2)
    rcases kind g.2 with _ | (_ | x)
    · exact N_pos
    · exact Nat.one_pos
    · exact N_pos

instance sched_storable (g : GSem nD τ sig) (r : ℕ) (j : Fin 4) :
    BI.Storable (upEmb : UEmb _ 𝕄) ((sched (F := F) m).payload g r j) := by
  show BI.Storable upEmb (payOf m g.1.1 j (kind g.2)); infer_instance

section Sched
variable (d : Dev nD) (x : Xch) (j : Fin 4)

theorem kind_bar : kind (.reg barS) = some (.inl ()) := kind_csem (.inl ())
theorem kind_send : kind (.dma (sendS x.1 x.2).sem) = some (.inr (.inl x)) := kind_csem (.inr (.inl x))
theorem kind_recv : kind (.dma (recvS x.1 x.2).sem) = some (.inr (.inr x)) := kind_csem (.inr (.inr x))

theorem duties_zero (sm : SemLoc sig) : (sched (F := F) m).duties ((d : Thread nD τ), sm) 0 = dutiesOf (kind sm) :=
  if_pos (t := dutiesOf (kind sm)) (e := ∅) (⟨rfl, rfl⟩ : (0 : ℕ) = 0 ∧ (d : Thread nD τ).2 = .tc)
theorem duties_bar : (sched (F := F) m).duties (barCell d) 0 = Finset.univ :=
  (duties_zero m d _).trans (congrArg dutiesOf kind_bar)
theorem duties_send : (sched (F := F) m).duties (sendCell d x) 0 = {0} :=
  (duties_zero m d _).trans (congrArg dutiesOf (kind_send x))
theorem duties_recv : (sched (F := F) m).duties (recvCell d x) 0 = {0} :=
  (duties_zero m d _).trans (congrArg dutiesOf (kind_recv x))
theorem duties_later (g : GSem nD τ sig) (r : ℕ) (hr : 1 ≤ r) : (sched (F := F) m).duties g r = ∅ :=
  if_neg fun h => by omega

theorem amount_bar : (sched (F := F) m).amount (barCell d) 0 j = 1 := by
  show unitsOf (kind (.reg barS)) = 1; rw [kind_bar]; rfl
theorem amount_send : (sched (F := F) m).amount (sendCell d x) 0 j = N := by
  show unitsOf (kind (.dma (sendS x.1 x.2).sem)) = N; rw [kind_send]; rfl
theorem amount_recv : (sched (F := F) m).amount (recvCell d x) 0 j = N := by
  show unitsOf (kind (.dma (recvS x.1 x.2).sem)) = N; rw [kind_recv]; rfl

theorem expect_bar : (sched (F := F) m).expect (barCell d) 0 = 4 := by
  unfold Schedule.expect Schedule.amountOf
  rw [duties_bar, Finset.sum_congr rfl fun j _ => amount_bar m d j]; rfl
theorem expect_send : (sched (F := F) m).expect (sendCell d x) 0 = N := by
  unfold Schedule.expect Schedule.amountOf; rw [duties_send, Finset.sum_singleton, amount_send]
theorem expect_recv : (sched (F := F) m).expect (recvCell d x) 0 = N := by
  unfold Schedule.expect Schedule.amountOf; rw [duties_recv, Finset.sum_singleton, amount_recv]

theorem payload_bar : (sched (F := F) m).payload (barCell d) 0 j = barPay d j := by
  show payOf m d j (kind (.reg barS)) = _; rw [kind_bar]; rfl
theorem payload_send : (sched (F := F) m).payload (sendCell d x) 0 j = sendPay m d x := by
  show payOf m d j (kind (.dma (sendS x.1 x.2).sem)) = _; rw [kind_send]; rfl
theorem payload_recv : (sched (F := F) m).payload (recvCell d x) 0 j = recvPay m d x := by
  show payOf m d j (kind (.dma (recvS x.1 x.2).sem)) = _; rw [kind_recv]; rfl

/-- What a barrier's wait brings: all four partners' slots. -/
theorem rest_bar : bigSep ((sched (F := F) m).duties (barCell d) 0 \ ∅) (fun j => (sched (F := F) m).payload (barCell d) 0 j)
    = bigSep Finset.univ fun j => barPay (F := F) d j := by
  rw [Finset.sdiff_empty, duties_bar]; exact bigSep_congr fun j _ => payload_bar m d j
theorem rest_send : bigSep ((sched (F := F) m).duties (sendCell d x) 0 \ ∅) (fun j => (sched (F := F) m).payload (sendCell d x) 0 j)
    = sendPay m d x := by
  rw [Finset.sdiff_empty, duties_send, bigSep_singleton, payload_send]
theorem rest_recv : bigSep ((sched (F := F) m).duties (recvCell d x) 0 \ ∅) (fun j => (sched (F := F) m).payload (recvCell d x) 0 j)
    = recvPay m d x := by
  rw [Finset.sdiff_empty, duties_recv, bigSep_singleton, payload_recv]

end Sched

/-! ## Times, debts, levels -/

/-- When an exchange's copy is started. -/
def tick (x : Xch) : ℕ := 4 * x.2.val + x.1.val

theorem tick_inj : ∀ x y : Xch, tick x = tick y → x = y := by decide

/-- At time `t` a device owes its partners the credits of the copies not yet started. -/
def owe (d : Dev nD) (t : ℕ) : CellTallies nD τ sig Unit :=
  ∑ x ∈ Finset.univ.filter fun x : Xch => t ≤ tick x, tallyAt (recvCell (mate x d) x) () N

/-- Starting a copy pays its credit. -/
theorem owe_step (d : Dev nD) (x : Xch) : owe d (tick x) = owe d (tick x + 1) + tallyAt (recvCell (mate x d) x) () N := by
  unfold owe
  rw [show (Finset.univ.filter fun y : Xch => tick x ≤ tick y) = insert x (Finset.univ.filter fun y : Xch => tick x + 1 ≤ tick y) from ?_,
    Finset.sum_insert (by simp), add_comm]
  ext y
  simp only [Finset.mem_filter, Finset.mem_univ, true_and, Finset.mem_insert]
  constructor
  · intro h
    by_cases e : tick x = tick y
    · exact .inl (tick_inj _ _ e).symm
    · exact .inr (by omega)
  · rintro (rfl | h)
    · exact le_rfl
    · omega

theorem owe_end (d : Dev nD) : ∀ t, 16 ≤ t → owe d t = 0 := by
  intro t ht
  unfold owe
  rw [show (Finset.univ.filter fun x : Xch => t ≤ tick x) = ∅ from ?_, Finset.sum_empty]
  ext x
  have h : tick x < 16 := by have := x.1.isLt; have := x.2.isLt; unfold tick; omega
  simp only [Finset.mem_filter, Finset.mem_univ, true_and, Finset.notMem_empty, iff_false]
  omega

/-- What a device owes at launch: that, and one unit to each partner's barrier, the first signal's last. -/
def debt₃ (d : Dev nD) : CellTallies nD τ sig Unit := owe d 0 + tallyAt (barCell (peer 3 d)) () 1
def debt₂ (d : Dev nD) : CellTallies nD τ sig Unit := debt₃ d + tallyAt (barCell (peer 2 d)) () 1
def debt₁ (d : Dev nD) : CellTallies nD τ sig Unit := debt₂ d + tallyAt (barCell (peer 1 d)) () 1
def debt (d : Dev nD) : CellTallies nD τ sig Unit := debt₁ d + tallyAt (barCell (peer 0 d)) () 1

def L (g : GSem nD τ sig) : Finset Unit := if g.1.2 = .tc then {()} else ∅
theorem L_other (g : GSem nD τ sig) (h : g.1.2 ≠ .tc) : L g = ∅ := if_neg h
theorem L_tc (d : Dev nD) (sm : SemLoc sig) : L ((d : Thread nD τ), sm) = {()} := if_pos rfl

/-- A cell's level: a barrier 1, the receive cells of step `s` at `2 + s`, anything else 0. -/
def levOf : Option Cells → ℕ
  | some (.inl _) => 1
  | some (.inr (.inr x)) => 2 + x.2.val
  | _ => 0
def lv (g : GSem nD τ sig) (_ : Unit) : ℕ := levOf (kind g.2)

theorem lv_bar (d : Dev nD) (u : Unit) : lv (barCell d) u = 1 := by
  show levOf (kind (.reg barS)) = 1; rw [kind_bar]; rfl
theorem lv_send (d : Dev nD) (x : Xch) (u : Unit) : lv (sendCell d x) u = 0 := by
  show levOf (kind (.dma (sendS x.1 x.2).sem)) = 0; rw [kind_send]; rfl
theorem lv_recv (d : Dev nD) (x : Xch) (u : Unit) : lv (recvCell d x) u = 2 + x.2.val := by
  show levOf (kind (.dma (recvS x.1 x.2).sem)) = _; rw [kind_recv]; rfl

theorem owe_pos {d : Dev nD} {t : ℕ} {g : GSem nD τ sig} {u : Unit} (h : 0 < owe d t g u) :
    ∃ x : Xch, t ≤ tick x ∧ g = recvCell (mate x d) x := by
  by_contra hn
  push Not at hn
  have : owe d t g u = 0 := by
    unfold owe
    rw [Finset.sum_apply, Finsupp.finset_sum_apply]
    refine Finset.sum_eq_zero fun x hx => ?_
    rw [tallyAt_apply, if_neg fun e => hn x (Finset.mem_filter.mp hx).2 e.1]
  omega

theorem debt_pos {d : Dev nD} {g : GSem nD τ sig} {u : Unit} (h : 0 < debt d g u) :
    (∃ x : Xch, g = recvCell (mate x d) x) ∨ ∃ j, g = barCell (peer j d) := by
  by_contra hn
  push Not at hn
  unfold debt debt₁ debt₂ debt₃ at h
  simp only [Pi.add_apply, Finsupp.add_apply, tallyAt_apply] at h
  rw [if_neg fun e => hn.2 _ e.1, if_neg fun e => hn.2 _ e.1, if_neg fun e => hn.2 _ e.1, if_neg fun e => hn.2 _ e.1] at h
  obtain ⟨x, _, hx⟩ := owe_pos (d := d) (t := 0) (g := g) (u := u) (by omega)
  exact hn.1 x hx

/-- A wait on a cell whose level is under every owed cell's may be made. -/
theorem mayWait_of (d : Dev nD) (sm : SemLoc sig) (n : ℕ) (O : CellTallies nD τ sig Unit) (hn : lv ((d : Thread nD τ), sm) () ≤ n)
    (hO : ∀ g u, 0 < O g u → g.1.2 = .tc ∧ n < lv g u) : (levAts L lv : sProp 𝕄) ⊢ MayWait (d : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hn) (fun g u hg => (hO g u hg).2)

/-- At its barrier wait a device owes receive cells only. -/
theorem mayWait_bar (d : Dev nD) : (levAts L lv : sProp 𝕄) ⊢ MayWait (d : Thread nD τ) (.reg barS) () (owe d 0) :=
  mayWait_of d _ 1 _ (by rw [lv_bar]) fun g u h => by
    obtain ⟨x, _, rfl⟩ := owe_pos h
    exact ⟨rfl, by rw [lv_recv]; omega⟩

/-- At an exchange's waits it owes receive cells of later steps only. -/
theorem mayWait_send (d : Dev nD) (x : Xch) (t : ℕ) :
    (levAts L lv : sProp 𝕄) ⊢ MayWait (d : Thread nD τ) (.dma (sendS x.1 x.2).sem) () (owe d t) :=
  mayWait_of d _ 0 _ (by rw [lv_send]) fun g u h => by
    obtain ⟨y, _, rfl⟩ := owe_pos h
    exact ⟨rfl, by rw [lv_recv]; omega⟩
theorem mayWait_recv (d : Dev nD) (x : Xch) :
    (levAts L lv : sProp 𝕄) ⊢ MayWait (d : Thread nD τ) (.dma (recvS x.1 x.2).sem) () (owe d (tick x + 4)) :=
  mayWait_of d _ (2 + x.2.val) _ (by rw [lv_recv]) fun g u h => by
    obtain ⟨y, hy, rfl⟩ := owe_pos h
    refine ⟨rfl, ?_⟩
    rw [lv_recv]; unfold tick at hy
    have := y.1.isLt
    omega

/-- A staging copy's semaphore is none of the protocol's, -/
theorem mayWait_stage (d : Dev nD) (q : DmaSem sig) (hq : ∀ k, csem k ≠ .dma q) (O : CellTallies nD τ sig Unit)
    (hO : O = debt d ∨ O = 0) : (levAts L lv : sProp 𝕄) ⊢ MayWait (d : Thread nD τ) (.dma q) () O := by
  rcases hO with rfl | rfl
  · refine mayWait_of d _ 0 _ ?_ fun g u h => ?_
    · show levOf (kind (.dma q)) ≤ 0
      rw [show kind (.dma q) = none from by
        unfold kind Function.partialInv
        exact dif_neg fun ⟨k, hk⟩ => hq k hk]
      exact le_rfl
    · rcases debt_pos h with ⟨x, rfl⟩ | ⟨j, rfl⟩
      · exact ⟨rfl, by rw [lv_recv]; omega⟩
      · exact ⟨rfl, by rw [lv_bar]; omega⟩
  · rw [MayWait_zero]; iintro -; iempintro

end Cert.KernelIdeal.Reduce

end
-- ==== Proof.Exchange.lean ====
/-
  The steps of one exchange, each run once for every chunk and step: a slot is loaded or stored, a copy started, a
  copy waited for.
-/
module

public import proofs.«01_k».proof.Proof.Protocol
public import Idealize.ShloMosaic.Lib.Pipeline.Value

@[expose] public section

noncomputable section

namespace Cert.KernelIdeal.Reduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- A program of device `d` run to a postcondition. -/
abbrev runs {α : Type} (d : Dev nD) (p : KProg F α) (Q : α → sProp 𝕄) : sProp 𝕄 :=
  wp frame (wpE (defs₀ (F := F)) 𝒱₀ (d : Thread nD τ) none) Set.univ p Q

variable (m : (ℓ : Loc nD τ sig) → Buf (Elt F) ℓ) (K : Dev nD × Cells → ℕ)

/-! ## What every device knows -/

/-- The cells' invariants, that round 0 of each is reached, and the levels. -/
def known : sProp 𝕄 :=
  iprop((bigSep Finset.univ fun p : Dev nD × Cells => cellInv EX (sched m) (K p) (kcell p))
    ∗ (bigSep Finset.univ fun p : Dev nD × Cells => reached EX (kcell p) 0) ∗ levAts L lv)

instance known_persistent : BI.Persistent (known m K) := by unfold known; infer_instance

/-- One of a finite family. -/
theorem big_at {I : Type} [Fintype I] [DecidableEq I] (Φ : I → sProp 𝕄) (i : I) : bigSep Finset.univ Φ ⊢ Φ i :=
  BI.bigSep_elim (Finset.mem_univ i)

theorem known_inv (p : Dev nD × Cells) : known m K ⊢ cellInv EX (sched m) (K p) (kcell p) := by
  unfold known
  iintro ⟨H, -, -⟩
  iapply (big_at (fun p : Dev nD × Cells => cellInv EX (sched m) (K p) (kcell p)) p); iexact H

theorem known_reached (p : Dev nD × Cells) : known m K ⊢ reached EX (kcell p) 0 := by
  unfold known
  iintro ⟨-, H, -⟩
  iapply (big_at (fun p : Dev nD × Cells => (reached EX (kcell p) 0 : sProp 𝕄)) p); iexact H

/-- A wait the levels allow may be made. -/
theorem known_wait (d : Dev nD) (sm : SemLoc sig) (O : CellTallies nD τ sig Unit)
    (h : (levAts L lv : sProp 𝕄) ⊢ MayWait (d : Thread nD τ) sm () O) : known m K ⊢ MayWait (d : Thread nD τ) sm () O := by
  unfold known
  iintro ⟨-, -, H⟩
  iapply h; iexact H

/-! ## Slots -/

/-- The array a transfer moves is the slot's rectangle read as 64 rows. -/
theorem slot_read (c : Fin 4) (k : Fin 8) (f : (cc0_scratch0 : Ref sig .tc).ty.Contents (Elt F)) :
    shapeCast S64x256 (commB.view.readAt (Elt F) (slotR c k).toLoadRect f) shapeCasts_S1x1x64x256_S64x256
      = (slotM c k).view.read (Elt F) f := rfl

/-- Storing 64 rows over the slot's rectangle, the slot reads as them. -/
theorem slot_write (c : Fin 4) (k : Fin 8) (f : (cc0_scratch0 : Ref sig .tc).ty.Contents (Elt F)) (w : FVec F S64x256 .bf16) :
    (slotM c k).view.read (Elt F) ((commB.access (slotR c k)).write (Elt F) f
      (shapeCast S1x1x64x256 w shapeCasts_S64x256_S1x1x64x256) Finset.univ) = w := by
  rw [← slot_read]
  show shapeCast S64x256 ((commB.access (slotR c k)).read (Elt F) ((commB.access (slotR c k)).write (Elt F) f
      (shapeCast S1x1x64x256 w shapeCasts_S64x256_S1x1x64x256) Finset.univ)) _ = w
  rw [View.read_write_univ]
  exact shapeCast_shapeCast w _ _

theorem slot_set (c : Fin 4) (k : Fin 8) : (slotM c k).view.set = commB.view.setOn (slotR c k).set := by
  show ((commB.view.slice (slotR c k)).reshape _ _).set = _
  rw [View.set_reshape, View.set_slice]; rfl

/-- A load of a slot reads it. -/
theorem wp_slot_load {α : Type} (d : Dev nD) (c : Fin 4) (k : Fin 8) (X : FVec F S64x256 .bf16)
    {hl : commB.view.LoadsAt (slotR c k).toLoadRect}
    (kk : Vec F S1x1x64x256 .bf16 → KProg F α) (Q : α → sProp 𝕄) :
    slotAt d c k X ⊢ iprop((∀ v : Vec F S1x1x64x256 .bf16, ⌜shapeCast S64x256 v shapeCasts_S1x1x64x256_S64x256 = X⌝ -∗ slotAt d c k X -∗ runs d (kk v) Q)
      -∗ runs d (.op (.load commB (slotR c k).toLoadRect hl) kk) Q) := by
  unfold slotAt owns
  iintro ⟨%f, %hf, H⟩ Hk
  iapply (wp_load 𝒱₀ (d : Thread nD τ) none Set.univ (m := commB) (r := (slotR c k).toLoadRect) (S := (slotM c k).view.set) (f := f)
    (by rw [slot_set])) $$ H
  iintro H
  ispecialize Hk $$ %(commB.view.readAt (Elt F) (slotR c k).toLoadRect f)
  iapply Hk
  · ipureintro; rw [slot_read]; exact hf
  iexists f
  isplitr; · ipureintro; exact hf
  iexact H

/-- A load whose value is not used, and a store of 64 rows over the slot. -/
theorem wp_stage (d : Dev nD) (c s : Fin 4) (a : FVec F S64x256 .f32) (Q : PUnit → sProp 𝕄) :
    iprop(slotEx (F := F) d c (srcK s) ∗ (slotAt d c (srcK s) (packed a) -∗ Q ⟨⟩)) ⊢ runs d (stageP c s a) Q := by
  unfold stageP runs
  simp only [Prog.lift, Prog.bind_op, Prog.bind_ret]
  unfold slotEx
  iintro ⟨⟨%X, H⟩, Hk⟩
  iapply (wp_slot_load d c (srcK s) X) $$ H
  iintro %v %hv H
  unfold slotAt owns
  icases H with ⟨%f, %hf, H⟩
  iapply (wp_store 𝒱₀ (d : Thread nD τ) none Set.univ (m := commB) (r := slotR c (srcK s)) (Mk := Finset.univ)
    (S := (slotM c (srcK s)).view.set) (f := f)
    (by rw [slot_set, View.setOn_univ]; show (commB.view.slice (slotR c (srcK s))).set ⊆ _; rw [View.set_slice]; exact Finset.Subset.refl _)) $$ H
  iintro H
  rw [wp_ret]; imodintro
  iapply Hk
  iexists _
  isplitr
  rotate_left
  · iexact H
  · ipureintro; exact slot_write c (srcK s) f (packed a)

/-! ## Copies -/

/-- An exchange not yet begun: the device's places in its two cells, the tokens of the two duties it will pay, the
    credit of its receive cell and the slot it sends from. -/
def waiting (d : Dev nD) (x : Xch) : sProp 𝕄 :=
  iprop(atPos EX (sendCell d x) 0 ∅ 0 ∗ atPos EX (recvCell d x) 0 ∅ 0
    ∗ dutyTok EX (sendCell d x) 0 (0 : Fin 4) ∗ dutyTok EX (recvCell (mate x d) x) 0 (0 : Fin 4)
    ∗ cred (tallyAt (recvCell d x) () N) ∗ slotEx (F := F) d x.1 (srcK x.2))

/-- The slot at the partner it sends to. -/
def target (d : Dev nD) (x : Xch) : sProp 𝕄 := slotEx (F := F) (mate x d) x.1 (dstK x.2)

/-- An exchange whose copy is under way: the two places, and the credits of both cells. -/
def flying (d : Dev nD) (x : Xch) : sProp 𝕄 :=
  iprop(atPos EX (sendCell d x) 0 ∅ 0 ∗ atPos EX (recvCell d x) 0 ∅ 0
    ∗ cred (tallyAt (sendCell d x) () N) ∗ cred (tallyAt (recvCell d x) () N))

/-- An exchange that is over: both slots back, both counters zero. -/
def over (d : Dev nD) (x : Xch) : sProp 𝕄 :=
  iprop(slotEx (F := F) d x.1 (srcK x.2) ∗ slotEx (F := F) d x.1 (dstK x.2) ∗ semVal (sendCell d x) 0 ∗ semVal (recvCell d x) 0)

/-- What a device owes at time `t`, whatever it has waited for. -/
def owing (d : Dev nD) (t : ℕ) : sProp 𝕄 := iprop(∃ W : Waits sig Unit, owes (d : Thread nD τ) (owe d t) W)

/-- Starting the copy of an exchange, to a device `n` that is the partner: the sum's slot and the partner's slot go into
    it, and its debt is paid. -/
theorem wp_send_to {α : Type} (d n : Dev nD) (c s : Fin 4) (hn : n = mate (c, s) d)
    {hsc : (slotM c (dstK s) : Memref sig (n : Thread nD τ).2.kind .vmem S64x256 .bf16).view.ref.isScScratch = false}
    {hsrc : (slotM c (srcK s)).view.WordExact} {hdst : (slotM c (dstK s)).view.WordExact}
    {hsem : DmaTarget.Typed .vmem (.dma (recvS c s).sem) (.remote (n : Thread nD τ) (slotM c (dstK s)) (.dma (sendS c s).sem) hsc)}
    (kk : PUnit → KProg F α) (Q : α → sProp 𝕄) :
    iprop(known m K ∗ slotAt d c (srcK s) (packed (acc m c s.val d)) ∗ target (F := F) d (c, s) ∗ owing (F := F) d (tick (c, s))
        ∗ dutyTok EX (sendCell d (c, s)) 0 (0 : Fin 4) ∗ dutyTok EX (recvCell (mate (c, s) d) (c, s)) 0 (0 : Fin 4)
        ∗ ((cred (tallyAt (sendCell d (c, s)) () N) ∗ owing (F := F) d (tick (c, s) + 1)) -∗ runs d (kk ⟨⟩) Q))
      ⊢ runs d (.op (.enqueueDma (slotM c (srcK s)) (.remote (n : Thread nD τ) (slotM c (dstK s)) (.dma (sendS c s).sem) hsc)
          (.dma (recvS c s).sem) hsrc hdst hsem) kk) Q := by
  subst hn
  unfold runs target slotEx owing
  iintro ⟨#Hn, Hs, ⟨%Y, Ht⟩, ⟨%W, HO⟩, HtS, HtR, Hk⟩
  unfold slotAt owns
  icases Hs with ⟨%fs, %hfs, Hs⟩
  icases Ht with ⟨%fd, -, Ht⟩
  rw [owe_step]
  iapply (Rounds.wp_send_pointsTo 𝒱₀ EX (sched m) (d : Thread nD τ) none (κ₁ := K (d, .inr (.inl (c, s)))) (κ₂ := K (mate (c, s) d, .inr (.inr (c, s))))
    (c' := ((mate (c, s) d : Dev nD) : Thread nD τ)) (q := fullShare) (r₁ := 0) (r₂ := 0) (d₁ := 0) (d₂ := 0) (fs := fs) (fd := fd)
    (by rw [duties_send m d (c, s)]; exact Finset.mem_singleton_self _)
    (by rw [duties_recv m _ (c, s)]; exact Finset.mem_singleton_self _)
    () () N (slot_amount c (dstK s) _) (amount_send m d (c, s) 0) (amount_recv m _ (c, s) 0) (owe d (tick (c, s) + 1)) rfl (W := W)
    (by
      rw [payload_send m d (c, s)]; unfold sendPay slotAt owns
      iintro H; iexists fs
      isplitr; · ipureintro; exact hfs
      iexact H)
    (by
      rw [payload_recv m _ (c, s)]; unfold recvPay slotAt owns
      rw [mate_mate]
      iintro H; iexists _
      isplitr
      rotate_left
      · iexact H
      · ipureintro; rw [View.read_write_univ]; exact hfs)) $$ [Hs Ht HO HtS HtR]
  · isplitr; · iapply (known_inv m K (d, .inr (.inl (c, s)))); iexact Hn
    isplitr; · iapply (known_inv m K (mate (c, s) d, .inr (.inr (c, s)))); iexact Hn
    isplitl [Hs]; · iexact Hs
    isplitl [Ht]; · iexact Ht
    isplitl [HO]; · iexact HO
    isplitl [HtS]; · iexact HtS
    isplitr; · iapply (known_reached m K (d, .inr (.inl (c, s)))); iexact Hn
    isplitl [HtR]; · iexact HtR
    iapply (known_reached m K (mate (c, s) d, .inr (.inr (c, s)))); iexact Hn
  · iintro ⟨Hc, HO⟩
    iapply Hk
    isplitl [Hc]; · iexact Hc
    iexists W; iexact HO

theorem wp_send (d : Dev nD) (c s : Fin 4) (Q : PUnit → sProp 𝕄) :
    iprop(known m K ∗ slotAt d c (srcK s) (packed (acc m c s.val d)) ∗ target (F := F) d (c, s) ∗ owing (F := F) d (tick (c, s))
        ∗ dutyTok EX (sendCell d (c, s)) 0 (0 : Fin 4) ∗ dutyTok EX (recvCell (mate (c, s) d) (c, s)) 0 (0 : Fin 4)
        ∗ ((cred (tallyAt (sendCell d (c, s)) () N) ∗ owing (F := F) d (tick (c, s) + 1)) -∗ Q ⟨⟩))
      ⊢ runs d (sendP d c s) Q := by
  unfold sendP
  simp only [Prog.lift]
  iintro ⟨Hn, Hs, Ht, HO, HtS, HtR, Hk⟩
  iapply (wp_send_to m K d _ c s (hopDev_eq s c d))
  isplitl [Hn]; · iexact Hn
  isplitl [Hs]; · iexact Hs
  isplitl [Ht]; · iexact Ht
  isplitl [HO]; · iexact HO
  isplitl [HtS]; · iexact HtS
  isplitl [HtR]; · iexact HtR
  iintro H
  unfold runs
  rw [wp_ret]; imodintro
  iapply Hk; iexact H

/-- The end of an exchange: the two waits bring both slots back, the partner's sum in one of them, and the device's own
    sum with it added is its sum before the next step. Both cells are closed. -/
theorem wp_land (d : Dev nD) (c s : Fin 4) (Q : FVec F S64x256 .f32 → sProp 𝕄) :
    iprop(known m K ∗ flying (F := F) d (c, s) ∗ owing (F := F) d (tick (c, s) + 4)
        ∗ ((over (F := F) d (c, s) ∗ owing (F := F) d (tick (c, s) + 4)) -∗ Q (acc m c (s.val + 1) d)))
      ⊢ runs d (landP c s (acc m c s.val d)) Q := by
  unfold landP runs flying owing
  simp only [Prog.lift, Prog.bind_op, Prog.bind_ret, Prog.pure_eq_ret]
  iintro ⟨#Hn, ⟨HaS, HaR, HcS, HcR⟩, ⟨%W, HO⟩, Hk⟩
  iapply (Rounds.wp_wait_rest_token 𝒱₀ EX (sched m) (d : Thread nD τ) none (κ := K (d, .inr (.inl (c, s))))
      (wpE_waitDma2_eq 𝒱₀ (d : Thread nD τ) none Set.univ) (Set.mem_univ _) () (O := owe d (tick (c, s) + 4)) (W := W) (R := 0) (m := 0) (T := ∅)
      (by rw [Nat.zero_add, expect_send m d (c, s)]; exact slot_credit c (srcK s))) $$ [HcS HO HaS]
  · isplitr; · iapply (known_inv m K (d, .inr (.inl (c, s)))); iexact Hn
    isplitl [HcS]; · rw [slot_credit]; iexact HcS
    isplitl [HO]; · iexact HO
    isplitr; · iapply (known_wait m K d _ _ (mayWait_send (F := F) d (c, s) _)); iexact Hn
    iexact HaS
  iintro ⟨HO, HaS, -, Hp⟩
  ihave HsS := (Entails.of_eq (rest_send m d (c, s))) $$ Hp
  iapply (Rounds.wp_wait_rest_token 𝒱₀ EX (sched m) (d : Thread nD τ) none (κ := K (d, .inr (.inr (c, s))))
      (wpE_waitDma2_eq 𝒱₀ (d : Thread nD τ) none Set.univ) (Set.mem_univ _) () (O := owe d (tick (c, s) + 4)) (R := 0) (m := 0) (T := ∅)
      (by rw [Nat.zero_add, expect_recv m d (c, s)]; exact slot_credit c (dstK s))) $$ [HcR HO HaR]
  · isplitr; · iapply (known_inv m K (d, .inr (.inr (c, s)))); iexact Hn
    isplitl [HcR]; · rw [slot_credit]; iexact HcR
    isplitl [HO]; · iexact HO
    isplitr; · iapply (known_wait m K d _ _ (mayWait_recv (F := F) d (c, s))); iexact Hn
    iexact HaR
  iintro ⟨HO, HaR, -, Hp⟩
  ihave HsR := (Entails.of_eq (rest_recv m d (c, s))) $$ Hp
  imod (Rounds.cell_close EX (sched m) (Set.mem_univ (K (d, .inr (.inl (c, s))))) (fun h => h) (R := 0 + 1) (duties_later m (sendCell d (c, s)))) $$ [HaS] with HzS
  · isplitr; · iapply (known_inv m K (d, .inr (.inl (c, s)))); iexact Hn
    iexact HaS
  imod (Rounds.cell_close EX (sched m) (Set.mem_univ (K (d, .inr (.inr (c, s))))) (fun h => h) (R := 0 + 1) (duties_later m (recvCell d (c, s)))) $$ [HaR] with HzR
  · isplitr; · iapply (known_inv m K (d, .inr (.inr (c, s)))); iexact Hn
    iexact HaR
  unfold recvPay sendPay
  iapply (wp_slot_load d c (dstK s) (packed (acc m c s.val (mate (c, s) d)))) $$ HsR
  iintro %v %hv HsR
  unfold runs
  rw [hv, ← acc_step, wp_ret]; imodintro
  iapply Hk
  isplitr [HO]
  · unfold over slotEx
    isplitl [HsS]; · iexists _; iexact HsS
    isplitl [HsR]; · iexists _; iexact HsR
    isplitl [HzS] <;> iassumption
  iexists _; iexact HO

end Cert.KernelIdeal.Reduce

end
-- ==== Proof.Walk.lean ====
/-
  The body, exchange by exchange. Between two exchanges everything a device holds is read off the time `t`: an
  exchange is waiting, under way or over.
-/
module

public import proofs.«01_k».proof.Proof.Exchange

@[expose] public section

noncomputable section

namespace Cert.KernelIdeal.Reduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cells → ℕ)

/-! ## The state at a time -/

/-- An exchange at time `t`. -/
def phase (d : Dev nD) (t : ℕ) (x : Xch) : sProp 𝕄 :=
  if t ≤ tick x then iprop(waiting (F := F) d x ∗ target (F := F) d x)
  else if t ≤ tick x + 4 then flying (F := F) d x else over (F := F) d x

theorem phase_waiting {d : Dev nD} {t : ℕ} {x : Xch} (h : t ≤ tick x) :
    phase (F := F) d t x = iprop(waiting (F := F) d x ∗ target (F := F) d x) := if_pos h
theorem phase_flying {d : Dev nD} {t : ℕ} {x : Xch} (h : tick x < t) (h' : t ≤ tick x + 4) :
    phase (F := F) d t x = flying (F := F) d x := by
  unfold phase; rw [if_neg (by omega), if_pos h']
theorem phase_over {d : Dev nD} {t : ℕ} {x : Xch} (h : tick x + 4 < t) : phase (F := F) d t x = over (F := F) d x := by
  unfold phase; rw [if_neg (by omega), if_neg (by omega)]

/-- An exchange that neither starts nor ends at time `t` is the same after it. -/
theorem phase_idle {d : Dev nD} {t : ℕ} {x : Xch} (h : tick x ≠ t) (h' : tick x + 4 ≠ t) :
    phase (F := F) d (t + 1) x = phase d t x := by
  unfold phase
  by_cases h₁ : t ≤ tick x
  · rw [if_pos h₁, if_pos (by omega)]
  · rw [if_neg h₁, if_neg (by omega)]
    by_cases h₂ : t ≤ tick x + 4
    · rw [if_pos h₂, if_pos (by omega)]
    · rw [if_neg h₂, if_neg (by omega)]

/-- All the exchanges and the debts at time `t`. -/
def state (d : Dev nD) (t : ℕ) : sProp 𝕄 := iprop((bigSep Finset.univ fun x : Xch => phase (F := F) d t x) ∗ owing (F := F) d t)

/-- The staged `x`, -/
def xOwn (d : Dev nD) : sProp 𝕄 := ((d : Thread nD τ).loc cc0_stg0_0) ↦{fullShare} xIn m d
/-- and the result, with the chunks finished before time `t` in place. -/
def outOwn (d : Dev nD) (t : ℕ) : sProp 𝕄 :=
  iprop(∃ f : FVec F S256x256 .f32, ⌜∀ c : Fin 4, tick (c, 3) + 4 < t → rowsOf c f = acc m c 4 d⌝
    ∗ (((d : Thread nD τ).loc cc0_stg3_0) ↦{fullShare} f))

/-- A chunk's rows, element by element. -/
theorem rowsOf_apply (c : Fin 4) (f : FVec F S256x256 .f32) (j : S64x256.Idx) : rowsOf c f j = f ((rowsR c).idx j) := rfl

theorem acc_zero (c : Fin 4) (d : Dev nD) :
    acc m c 0 d = partialOf (w1In m d) (w2In m d) (xB.view.readAt (Elt F) (rowsR c).toLoadRect (xIn m d)) := rfl

/-- One of a finite set, taken out. -/
theorem big_erase {I : Type} [DecidableEq I] {S : Finset I} {i : I} (h : i ∈ S) (Φ : I → sProp 𝕄) :
    bigSep S Φ = iprop(Φ i ∗ bigSep (S.erase i) Φ) := BI.bigSep_erase h

/-! ## Starting a chunk -/

theorem wp_part (d : Dev nD) (c : Fin 4) (Q : FVec F S64x256 .f32 → sProp 𝕄) :
    iprop(xOwn m d ∗ (xOwn m d -∗ Q (acc m c 0 d))) ⊢ runs d (partP (w1In m d) (w2In m d) c) Q := by
  unfold partP runs xOwn
  simp only [Prog.lift, Prog.bind_op, Prog.bind_ret, Prog.pure_eq_ret]
  iintro ⟨Hx, Hk⟩
  iapply (wp_load 𝒱₀ (d : Thread nD τ) none Set.univ (m := xB) (r := (rowsR c).toLoadRect) (Finset.subset_univ _)) $$ Hx
  iintro Hx
  rw [← acc_zero, wp_ret]; imodintro
  iapply Hk; iexact Hx

/-- Storing and sending a sum at an exchange's time. -/
theorem wp_stage_send {α : Type} (d : Dev nD) (c s : Fin 4) (kk : PUnit → KProg F α) (Q : α → sProp 𝕄) :
    iprop(known m K ∗ waiting (F := F) d (c, s) ∗ target (F := F) d (c, s) ∗ owing (F := F) d (tick (c, s))
        ∗ ((flying (F := F) d (c, s) ∗ owing (F := F) d (tick (c, s) + 1)) -∗ runs d (kk ⟨⟩) Q))
      ⊢ runs d (stageP c s (acc m c s.val d) >>= fun _ => sendP d c s >>= kk) Q := by
  unfold waiting runs
  rw [wp_bind]
  iintro ⟨#Hn, ⟨HaS, HaR, HtS, HtR, HcR, Hs⟩, Ht, HO, Hk⟩
  iapply (wp_stage d c s (acc m c s.val d))
  isplitl [Hs]; · iexact Hs
  iintro Hs
  rw [wp_bind]
  iapply (wp_send m K d c s)
  isplitr; · iexact Hn
  isplitl [Hs]; · iexact Hs
  isplitl [Ht]; · iexact Ht
  isplitl [HO]; · iexact HO
  isplitl [HtS]; · iexact HtS
  isplitl [HtR]; · iexact HtR
  iintro ⟨HcS, HO⟩
  iapply Hk
  isplitr [HO]
  · unfold flying
    isplitl [HaS]; · iexact HaS
    isplitl [HaR]; · iexact HaR
    isplitl [HcS]; · iexact HcS
    iexact HcR
  iexact HO

theorem tick_zero (c : Fin 4) : tick (c, 0) = c.val := by unfold tick; simp

/-- The exchanges other than the one starting, before and after a chunk's start. -/
theorem idle_start (d : Dev nD) (c : Fin 4) :
    (bigSep (Finset.univ.erase (c, (0 : Fin 4))) fun x : Xch => phase (F := F) d (tick (c, 0) + 1) x)
      = bigSep (Finset.univ.erase (c, (0 : Fin 4))) fun x : Xch => phase (F := F) d (tick (c, 0)) x :=
  bigSep_congr fun x hx => phase_idle (fun h => (Finset.mem_erase.mp hx).1 (tick_inj _ _ h))
    (fun h => by rw [tick_zero] at h; have := c.isLt; omega)

theorem wp_start (d : Dev nD) (c : Fin 4) (Q : FVec F S64x256 .f32 → sProp 𝕄) :
    iprop(known m K ∗ xOwn m d ∗ state (F := F) d (tick (c, 0))
        ∗ ((xOwn m d ∗ state (F := F) d (tick (c, 0) + 1)) -∗ Q (acc m c 0 d)))
      ⊢ runs d (startP d (w1In m d) (w2In m d) c) Q := by
  unfold startP runs state
  rw [wp_bind, bigSep_univ_at (fun x : Xch => phase (F := F) d (tick (c, 0)) x) (c, (0 : Fin 4)), phase_waiting (x := (c, 0)) le_rfl]
  iintro ⟨#Hn, Hx, ⟨Hp, HO⟩, Hk⟩
  iapply (wp_part m d c)
  isplitl [Hx]; · iexact Hx
  iintro Hx
  icases Hp with ⟨⟨Hw, Ht⟩, Hp⟩
  iapply (wp_stage_send m K d c 0)
  isplitr; · iexact Hn
  isplitl [Hw]; · iexact Hw
  isplitl [Ht]; · iexact Ht
  isplitl [HO]; · iexact HO
  iintro ⟨Hf, HO⟩
  unfold runs
  rw [Prog.pure_eq_ret, wp_ret]; imodintro
  iapply Hk
  isplitl [Hx]; · iexact Hx
  isplitr [HO]
  · rw [bigSep_univ_at _ (c, (0 : Fin 4)), phase_flying (Nat.lt_succ_self _) (by omega), idle_start]
    isplitl [Hf] <;> iassumption
  iexact HO

/-! ## The barrier -/

/-- A chunk's steps against the axes they use. -/
def axisAt (c : Fin 4) : Fin 4 ≃ Fin 4 :=
  ⟨fun s => axis c s, fun j => j - c, fun s => by revert c s; decide, fun j => by revert c j; decide⟩

/-- The four partners' slots, listed by axis and chunk or by exchange. -/
theorem targets_eq (d : Dev nD) :
    (bigSep Finset.univ fun j : Fin 4 => barPay (F := F) d j) = bigSep Finset.univ fun x : Xch => target (F := F) d x := by
  unfold barPay
  rw [BI.bigSep_univ_comm, BI.bigSep_univ_prod]
  refine bigSep_congr fun c _ => ?_
  rw [BI.bigSep_univ_equiv (axisAt c)]
  refine bigSep_congr fun s _ => ?_
  unfold target mate axis
  rw [show axisAt c s - c = s from (axisAt c).left_inv s]; rfl

/-- The slots a device hands its partners are its landing slots. -/
theorem handed_eq (d : Dev nD) :
    (bigSep Finset.univ fun x : Xch => slotEx (F := F) d x.1 (dstK x.2)) = bigSep Finset.univ fun j : Fin 4 => barPay (F := F) (peer j d) j := by
  unfold barPay
  rw [BI.bigSep_univ_comm, BI.bigSep_univ_prod]
  refine bigSep_congr fun c _ => ?_
  rw [BI.bigSep_univ_equiv (axisAt c) fun j => slotEx (F := F) (peer j (peer j d)) c (dstK (j - c))]
  refine bigSep_congr fun s _ => ?_
  rw [peer_peer, show axisAt c s - c = s from (axisAt c).left_inv s]

/-- A device's place at its barrier and the credit of the four units it waits for. -/
def atBarrier (d : Dev nD) : sProp 𝕄 := iprop(atPos EX (barCell d) 0 ∅ 0 ∗ cred (tallyAt (barCell d) () 4))

theorem wp_start0 (d : Dev nD) (Q : FVec F S64x256 .f32 → sProp 𝕄) :
    iprop(known m K ∗ xOwn m d ∗ (bigSep Finset.univ fun x : Xch => waiting (F := F) d x) ∗ atBarrier (F := F) d ∗ owing (F := F) d 0
        ∗ ((xOwn m d ∗ state (F := F) d 1 ∗ semVal (barCell d) 0) -∗ Q (acc m 0 0 d)))
      ⊢ runs d (start0P d (w1In m d) (w2In m d)) Q := by
  unfold start0P runs state atBarrier
  rw [wp_bind, bigSep_univ_at (fun x : Xch => waiting (F := F) d x) ((0 : Fin 4), (0 : Fin 4))]
  iintro ⟨#Hn, Hx, Hp, ⟨Hat, Hc⟩, HO, Hk⟩
  iapply (wp_part m d 0)
  isplitl [Hx]; · iexact Hx
  iintro Hx
  rw [wp_bind]
  unfold waiting
  icases Hp with ⟨⟨HaS, HaR, HtS, HtR, HcR, Hs⟩, Hp⟩
  iapply (wp_stage d 0 0 (acc m 0 0 d))
  isplitl [Hs]; · iexact Hs
  iintro Hs
  ihave HO := (Entails.of_eq (show owing (F := F) d 0 = iprop(∃ W : Waits sig Unit, owes (d : Thread nD τ) (owe d 0) W) from rfl)) $$ HO
  icases HO with ⟨%W, HO⟩
  simp only [semWaitWord, Prog.bind_op, Prog.bind_ret]
  iapply (Rounds.wp_wait_rest_token 𝒱₀ EX (sched m) (d : Thread nD τ) none (κ := K (d, .inl ()))
      (wpE_semWait_eq 𝒱₀ (d : Thread nD τ) none Set.univ) (Set.mem_univ _) () (O := owe d 0) (W := W) (R := 0) (m := 0) (T := ∅)
      (by rw [expect_bar]; decide)) $$ [Hc HO Hat]
  · isplitr; · iapply (known_inv m K (d, .inl ())); iexact Hn
    isplitl [Hc]; · iexact Hc
    isplitl [HO]; · iexact HO
    isplitr; · iapply (known_wait m K d _ _ (mayWait_bar (F := F) d)); iexact Hn
    iexact Hat
  iintro ⟨HO, Hat, -, Ht⟩
  ihave Ht := (Entails.of_eq (((rest_bar m d).trans (targets_eq d)).trans
    (bigSep_univ_at (fun x : Xch => target (F := F) d x) ((0 : Fin 4), (0 : Fin 4))))) $$ Ht
  imod (Rounds.cell_close EX (sched m) (Set.mem_univ (K (d, .inl ()))) (fun h => h) (R := 0 + 1) (duties_later m (barCell d))) $$ [Hat] with Hz
  · isplitr; · iapply (known_inv m K (d, .inl ())); iexact Hn
    iexact Hat
  rw [wp_bind]
  icases Ht with ⟨Ht, Hts⟩
  iapply (wp_send m K d 0 0)
  isplitr; · iexact Hn
  isplitl [Hs]; · iexact Hs
  isplitl [Ht]; · iexact Ht
  isplitl [HO]; · unfold owing; iexists _; iexact HO
  isplitl [HtS]; · iexact HtS
  isplitl [HtR]; · iexact HtR
  iintro ⟨HcS, HO⟩
  rw [Prog.pure_eq_ret, wp_ret]; imodintro
  iapply Hk
  isplitl [Hx]; · iexact Hx
  isplitr [Hz]
  · isplitr [HO]
    · rw [bigSep_univ_at _ ((0 : Fin 4), (0 : Fin 4)), phase_flying (t := 1) (x := (0, 0)) (by decide) (by decide)]
      isplitl [HaS HaR HcS HcR]
      · unfold flying
        isplitl [HaS]; · iexact HaS
        isplitl [HaR]; · iexact HaR
        isplitl [HcS]; · iexact HcS
        iexact HcR
      · iapply (Entails.of_eq (idle_start (F := F) d 0).symm)
        iapply (Entails.of_eq (show iprop((bigSep (Finset.univ.erase ((0 : Fin 4), (0 : Fin 4))) fun x : Xch => waiting (F := F) d x)
            ∗ bigSep (Finset.univ.erase ((0 : Fin 4), (0 : Fin 4))) fun x : Xch => target (F := F) d x) = _ from by
          rw [← bigSep_sep']
          exact bigSep_congr fun x _ => (phase_waiting (Nat.zero_le _)).symm))
        isplitl [Hp]; · unfold waiting; iexact Hp
        iexact Hts
    iexact HO
  iexact Hz

/-! ## The exchanges in between, and the last -/

theorem wp_mid (d : Dev nD) (c s s' : Fin 4) (hs : s'.val = s.val + 1) (Q : FVec F S64x256 .f32 → sProp 𝕄) :
    iprop(known m K ∗ state (F := F) d (tick (c, s')) ∗ (state (F := F) d (tick (c, s') + 1) -∗ Q (acc m c s'.val d)))
      ⊢ runs d (midP d c s s' (acc m c s.val d)) Q := by
  have ht : tick (c, s') = tick (c, s) + 4 := by unfold tick; dsimp only; omega
  have hne : ((c, s') : Xch) ∈ Finset.univ.erase (c, s) :=
    Finset.mem_erase.mpr ⟨fun h => by rw [h] at ht; omega, Finset.mem_univ _⟩
  unfold midP runs state
  rw [wp_bind, bigSep_univ_at _ (c, s), big_erase hne, phase_flying (x := (c, s)) (by omega) (by omega), phase_waiting (x := (c, s')) le_rfl]
  iintro ⟨#Hn, ⟨⟨Hf, ⟨Hw, Ht⟩, Hp⟩, HO⟩, Hk⟩
  iapply (wp_land m K d c s)
  isplitr; · iexact Hn
  isplitl [Hf]; · iexact Hf
  isplitl [HO]; · rw [← ht]; iexact HO
  iintro ⟨Hv, HO⟩
  rw [← ht, ← hs]
  iapply (wp_stage_send m K d c s')
  isplitr; · iexact Hn
  isplitl [Hw]; · iexact Hw
  isplitl [Ht]; · iexact Ht
  isplitl [HO]; · iexact HO
  iintro ⟨Hf, HO⟩
  unfold runs
  rw [Prog.pure_eq_ret, wp_ret]; imodintro
  iapply Hk
  isplitr [HO]
  · rw [bigSep_univ_at _ (c, s), big_erase hne, phase_over (x := (c, s)) (by omega), phase_flying (x := (c, s')) (by omega) (by omega)]
    isplitl [Hv]; · iexact Hv
    isplitl [Hf]; · iexact Hf
    iapply (Entails.of_eq (bigSep_congr fun x hx => (phase_idle (F := F) (d := d) (t := tick (c, s')) (x := x)
      (fun h => (Finset.mem_erase.mp hx).1 (tick_inj _ _ h))
      (fun h => (Finset.mem_erase.mp (Finset.mem_erase.mp hx).2).1 (tick_inj _ _ (by omega)))).symm))
    iexact Hp
  iexact HO

/-- Rows written, and the rows of the other chunks. -/
theorem rows_write (c : Fin 4) (f : FVec F S256x256 .f32) (a : FVec F S64x256 .f32) :
    rowsOf c ((outB.access (rowsR c)).write (Elt F) f a Finset.univ) = a := by
  show (outB.access (rowsR c)).read (Elt F) ((outB.access (rowsR c)).write (Elt F) f a Finset.univ) = a
  rw [View.read_write_univ]

theorem rows_write_ne (c c' : Fin 4) (h : c' ≠ c) (f : FVec F S256x256 .f32) (a : FVec F S64x256 .f32) :
    rowsOf c' ((outB.access (rowsR c)).write (Elt F) f a Finset.univ) = rowsOf c' f := by
  have e : ∀ j, (outB.access (rowsR c)).write (Elt F) f a Finset.univ ((rowsR c').idx j) = f ((rowsR c').idx j) := by
    intro j
    refine View.write_of_not_mem _ _ _ fun hm => ?_
    obtain ⟨i, -, hi⟩ := Finset.mem_map.mp hm
    have hi : (rowsR c).idx i = (rowsR c').idx j := hi
    have e : 64 * c.val + 1 * (i 0).val = 64 * c'.val + 1 * (j 0).val := congrArg (fun q : S256x256.Idx => (q 0).val) hi
    have h₁ : (i 0).val < 64 := (i 0).isLt
    have h₂ : (j 0).val < 64 := (j 0).isLt
    exact h (Fin.ext (by omega))
  exact funext e

theorem wp_emit (d : Dev nD) (c : Fin 4) (t : ℕ) (ht : t = tick (c, 3) + 4) (Q : PUnit → sProp 𝕄) :
    iprop(outOwn m d t ∗ (outOwn m d (t + 1) -∗ Q ⟨⟩)) ⊢ runs d (emitP c (acc m c 4 d)) Q := by
  unfold emitP runs outOwn
  simp only [Prog.lift, Prog.bind_op, Prog.bind_ret]
  iintro ⟨⟨%f, %hf, Ho⟩, Hk⟩
  iapply (wp_load 𝒱₀ (d : Thread nD τ) none Set.univ (m := outB) (r := (rowsR c).toLoadRect) (Finset.subset_univ _)) $$ Ho
  iintro Ho
  iapply (wp_store 𝒱₀ (d : Thread nD τ) none Set.univ (m := outB) (r := rowsR c) (Mk := Finset.univ) (Finset.subset_univ _)) $$ Ho
  iintro Ho
  rw [wp_ret]; imodintro
  iapply Hk
  iexists _
  isplitr
  rotate_left
  · iexact Ho
  ipureintro
  intro c' hc'
  by_cases h : c' = c
  · rw [h]; exact rows_write c f _
  · refine (rows_write_ne c c' h f _).trans (hf c' ?_)
    have : tick (c', 3) ≠ tick (c, 3) := fun e => h (congrArg Prod.fst (tick_inj _ _ e))
    omega

theorem wp_last (d : Dev nD) (c : Fin 4) (Q : PUnit → sProp 𝕄) :
    iprop(known m K ∗ state (F := F) d (tick (c, 3) + 4) ∗ outOwn m d (tick (c, 3) + 4)
        ∗ ((state (F := F) d (tick (c, 3) + 5) ∗ outOwn m d (tick (c, 3) + 5)) -∗ Q ⟨⟩))
      ⊢ runs d (lastP c (acc m c 3 d)) Q := by
  unfold lastP runs state
  rw [wp_bind, bigSep_univ_at _ (c, (3 : Fin 4)), phase_flying (x := (c, 3)) (by omega) (by omega)]
  iintro ⟨#Hn, ⟨⟨Hf, Hp⟩, HO⟩, Ho, Hk⟩
  iapply (wp_land m K d c 3)
  isplitr; · iexact Hn
  isplitl [Hf]; · iexact Hf
  isplitl [HO]; · iexact HO
  iintro ⟨Hv, HO⟩
  iapply (wp_emit m d c _ rfl)
  isplitl [Ho]; · iexact Ho
  iintro Ho
  iapply Hk
  isplitr [Ho]
  · isplitr [HO]
    · rw [bigSep_univ_at _ (c, (3 : Fin 4)), phase_over (x := (c, 3)) (by omega)]
      isplitl [Hv]; · iexact Hv
      iapply (Entails.of_eq (bigSep_congr fun x hx => (phase_idle (F := F) (d := d) (t := tick (c, 3) + 4) (x := x)
        (fun h => by
          have h₁ := x.1.isLt; have h₂ := x.2.isLt
          unfold tick at h; dsimp only at h
          have : ((3 : Fin 4) : ℕ) = 3 := rfl
          omega)
        (fun h => (Finset.mem_erase.mp hx).1 (tick_inj _ _ (by omega)))).symm))
      iexact Hp
    unfold owing
    rw [owe_end d _ (by unfold tick; dsimp only; have : ((3 : Fin 4) : ℕ) = 3 := rfl; omega),
      owe_end d _ (by unfold tick; dsimp only; have : ((3 : Fin 4) : ℕ) = 3 := rfl; omega)]
    iexact HO
  iexact Ho

end Cert.KernelIdeal.Reduce

end
-- ==== Proof.Body.lean ====
/-
  The whole body on one device: from its own inputs, its places and credits, to the finished result.
-/
module

public import proofs.«01_k».proof.Proof.Walk
public import Idealize.ShloMosaic.Lib.Ring.FamCut
public import Idealize.ShloMosaic.Lib.Pointwise.Index

@[expose] public section

noncomputable section

namespace Cert.KernelIdeal.Reduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cells → ℕ)

/-! ## The exchanges, at numbered times -/

theorem start_at (d : Dev nD) (c : Fin 4) (t : ℕ) (ht : tick (c, 0) = t) (Q : FVec F S64x256 .f32 → sProp 𝕄) :
    iprop(known m K ∗ xOwn m d ∗ state (F := F) d t ∗ ((xOwn m d ∗ state (F := F) d (t + 1)) -∗ Q (acc m c 0 d)))
      ⊢ runs d (startP d (w1In m d) (w2In m d) c) Q := by
  subst ht; exact wp_start m K d c Q

theorem mid_at (d : Dev nD) (c s s' : Fin 4) (t n : ℕ) (ht : tick (c, s') = t) (hs : s.val = n) (hs' : s'.val = n + 1)
    (Q : FVec F S64x256 .f32 → sProp 𝕄) :
    iprop(known m K ∗ state (F := F) d t ∗ (state (F := F) d (t + 1) -∗ Q (acc m c (n + 1) d)))
      ⊢ runs d (midP d c s s' (acc m c n d)) Q := by
  subst hs ht; rw [← hs']; exact wp_mid m K d c s s' hs' Q

theorem last_at (d : Dev nD) (c : Fin 4) (t : ℕ) (ht : tick (c, 3) + 4 = t) (Q : PUnit → sProp 𝕄) :
    iprop(known m K ∗ state (F := F) d t ∗ outOwn m d t ∗ ((state (F := F) d (t + 1) ∗ outOwn m d (t + 1)) -∗ Q ⟨⟩))
      ⊢ runs d (lastP c (acc m c 3 d)) Q := by
  subst ht; exact wp_last m K d c Q

/-- The four chunks' exchanges from step `s` to `s'`. -/
theorem wp_round {α : Type} (d : Dev nD) (s s' : Fin 4) (t n : ℕ) (ht : tick (0, s') = t) (hs : s.val = n) (hs' : s'.val = n + 1)
    (kk : FVec F S64x256 .f32 → FVec F S64x256 .f32 → FVec F S64x256 .f32 → FVec F S64x256 .f32 → KProg F α) (Q : α → sProp 𝕄) :
    iprop(known m K ∗ state (F := F) d t
        ∗ (state (F := F) d (t + 4) -∗ runs d (kk (acc m 0 (n + 1) d) (acc m 1 (n + 1) d) (acc m 2 (n + 1) d) (acc m 3 (n + 1) d)) Q))
      ⊢ runs d (midP d 0 s s' (acc m 0 n d) >>= fun a0 => midP d 1 s s' (acc m 1 n d) >>= fun a1 =>
          midP d 2 s s' (acc m 2 n d) >>= fun a2 => midP d 3 s s' (acc m 3 n d) >>= fun a3 => kk a0 a1 a2 a3) Q := by
  have tk (c : Fin 4) : tick (c, s') = t + c.val := by subst ht; unfold tick; simp
  unfold runs
  iintro ⟨#Hn, Hs, Hk⟩
  rw [wp_bind]
  iapply (mid_at m K d 0 s s' t n (tk 0) hs hs')
  isplitr; · iexact Hn
  isplitl [Hs]; · iexact Hs
  iintro Hs
  rw [wp_bind]
  iapply (mid_at m K d 1 s s' (t + 1) n (tk 1) hs hs')
  isplitr; · iexact Hn
  isplitl [Hs]; · iexact Hs
  iintro Hs
  rw [wp_bind]
  iapply (mid_at m K d 2 s s' (t + 2) n (tk 2) hs hs')
  isplitr; · iexact Hn
  isplitl [Hs]; · iexact Hs
  iintro Hs
  rw [wp_bind]
  iapply (mid_at m K d 3 s s' (t + 3) n (tk 3) hs hs')
  isplitr; · iexact Hn
  isplitl [Hs]; · iexact Hs
  iintro Hs
  iapply Hk
  iexact Hs

/-! ## The signals -/

/-- One signal, along axis `k`: the partner is handed the slots it will fill. -/
theorem wp_sig (d : Dev nD) (k : Fin 4) (O O' : CellTallies nD τ sig Unit) (W : Waits sig Unit)
    (hO : O' = O + tallyAt (barCell (peer k d)) () 1) (Q : PUnit → sProp 𝕄) :
    iprop(known m K ∗ dutyTok EX (barCell (peer k d)) 0 k ∗ barPay (F := F) (peer k d) k ∗ owes (d : Thread nD τ) O' W
        ∗ (owes (d : Thread nD τ) O W -∗ Q ⟨⟩))
      ⊢ runs d (semSignalWord (barDev k d) barS 1#32) Q := by
  rw [barDev_eq]
  unfold runs
  simp only [semSignalWord, Prog.lift]
  iintro ⟨#Hn, Ht, Hp, HO, Hk⟩
  iapply (Rounds.wp_signal 𝒱₀ EX (sched m) (d : Thread nD τ) none (dst := (peer k d : Thread nD τ)) (κ := K (peer k d, .inl ()))
      (d := k) (by rw [duties_bar]; exact Finset.mem_univ _) ((amount_bar m (peer k d) k).trans (by decide)) () O hO)
    $$ [Ht Hp HO]
  · isplitr; · iapply (known_inv m K (peer k d, .inl ())); iexact Hn
    isplitl [HO]; · iexact HO
    isplitl [Ht]; · iexact Ht
    isplitl [Hp]; · rw [payload_bar]; iexact Hp
    iapply (known_reached m K (peer k d, .inl ())); iexact Hn
  iintro HO
  rw [wp_ret]; imodintro
  iapply Hk; iexact HO

theorem big_four (Φ : Fin 4 → sProp 𝕄) : bigSep Finset.univ Φ = iprop(Φ 0 ∗ Φ 1 ∗ Φ 2 ∗ Φ 3) := bigSep_W0 Φ

/-- The tokens of the four units a device pays its partners. -/
def toPay (d : Dev nD) : sProp 𝕄 := bigSep Finset.univ fun j : Fin 4 => dutyTok EX (barCell (peer j d)) 0 j

/-! ## The whole body -/

/-- The staged weights. -/
def w1Own (d : Dev nD) : sProp 𝕄 := ((d : Thread nD τ).loc cc0_stg1_0) ↦{fullShare} w1In m d
def w2Own (d : Dev nD) : sProp 𝕄 := ((d : Thread nD τ).loc cc0_stg2_0) ↦{fullShare} w2In m d

theorem zeros : (![0, 0] : Fin 2 → Nat) = fun _ => 0 := funext fun a => by fin_cases a <;> rfl

/-- Before the first chunk finishes nothing is known of the result. -/
theorem out_early (d : Dev nD) : outOwn m d 0 ⊢ outOwn m d 16 := by
  unfold outOwn
  iintro ⟨%f, -, H⟩
  iexists f
  isplitr
  · ipureintro
    intro c h
    exfalso
    unfold tick at h
    have : ((3 : Fin 4) : ℕ) = 3 := rfl
    dsimp only at h; omega
  iexact H

set_option maxHeartbeats 1000000 in
theorem wp_walk (d : Dev nD) (W : Waits sig Unit) (Q : PUnit → sProp 𝕄) :
    iprop(known m K ∗ owes (d : Thread nD τ) (debt d) W ∗ toPay (F := F) d
        ∗ (bigSep Finset.univ fun x : Xch => slotEx (F := F) d x.1 (dstK x.2))
        ∗ xOwn m d ∗ w1Own m d ∗ w2Own m d ∗ (bigSep Finset.univ fun x : Xch => waiting (F := F) d x) ∗ atBarrier (F := F) d ∗ outOwn m d 0
        ∗ ((xOwn m d ∗ w1Own m d ∗ w2Own m d ∗ state (F := F) d 20 ∗ semVal (barCell d) 0 ∗ outOwn m d 20) -∗ Q ⟨⟩))
      ⊢ runs d walkP Q := by
  rw [handed_eq, big_four]
  unfold walkP toPay runs
  rw [big_four]
  simp only [Prog.lift, Prog.bind_op, Prog.bind_ret, wp_deviceId]
  iintro ⟨#Hn, HO, ⟨T0, T1, T2, T3⟩, ⟨P0, P1, P2, P3⟩, Hx, Hw1, Hw2, Hp, Hb, Ho, Hk⟩
  rw [wp_bind]
  iapply (wp_sig m K d 0 (debt₁ d) (debt d) W rfl)
  isplitr; · iexact Hn
  isplitl [T0]; · iexact T0
  isplitl [P0]; · iexact P0
  isplitl [HO]; · iexact HO
  iintro HO
  rw [wp_bind]
  iapply (wp_sig m K d 1 (debt₂ d) (debt₁ d) W rfl)
  isplitr; · iexact Hn
  isplitl [T1]; · iexact T1
  isplitl [P1]; · iexact P1
  isplitl [HO]; · iexact HO
  iintro HO
  rw [wp_bind]
  iapply (wp_sig m K d 2 (debt₃ d) (debt₂ d) W rfl)
  isplitr; · iexact Hn
  isplitl [T2]; · iexact T2
  isplitl [P2]; · iexact P2
  isplitl [HO]; · iexact HO
  iintro HO
  rw [wp_bind]
  iapply (wp_sig m K d 3 (owe d 0) (debt₃ d) W rfl)
  isplitr; · iexact Hn
  isplitl [T3]; · iexact T3
  isplitl [P3]; · iexact P3
  isplitl [HO]; · iexact HO
  iintro HO
  unfold w1Own w2Own
  iapply (wp_load 𝒱₀ (d : Thread nD τ) none Set.univ (m := w1B) (Finset.subset_univ _)) $$ Hw1
  iintro Hw1
  rw [show View.readAt (Elt F) w1B.view (Rect.unit (s := S256x512) ![0, 0] ![256, 512] inb_S256x512_S256x512_0_0).toLoadRect (w1In m d)
    = w1In m d from Memref.readAt_unit_zero (Elt F) cc0_stg1_0 zeros _ _]
  iapply (wp_load 𝒱₀ (d : Thread nD τ) none Set.univ (m := w2B) (Finset.subset_univ _)) $$ Hw2
  iintro Hw2
  rw [show View.readAt (Elt F) w2B.view (Rect.unit (s := S512x256) ![0, 0] ![512, 256] inb_S512x256_S512x256_0_0).toLoadRect (w2In m d)
    = w2In m d from Memref.readAt_unit_zero (Elt F) cc0_stg2_0 zeros _ _]
  rw [wp_bind]
  iapply (wp_start0 m K d)
  isplitr; · iexact Hn
  isplitl [Hx]; · iexact Hx
  isplitl [Hp]; · iexact Hp
  isplitl [Hb]; · iexact Hb
  isplitl [HO]; · unfold owing; iexists W; iexact HO
  iintro ⟨Hx, Hs, Hz⟩
  rw [wp_bind]
  iapply (start_at m K d 1 1 rfl)
  isplitr; · iexact Hn
  isplitl [Hx]; · iexact Hx
  isplitl [Hs]; · iexact Hs
  iintro ⟨Hx, Hs⟩
  rw [wp_bind]
  iapply (start_at m K d 2 2 rfl)
  isplitr; · iexact Hn
  isplitl [Hx]; · iexact Hx
  isplitl [Hs]; · iexact Hs
  iintro ⟨Hx, Hs⟩
  rw [wp_bind]
  iapply (start_at m K d 3 3 rfl)
  isplitr; · iexact Hn
  isplitl [Hx]; · iexact Hx
  isplitl [Hs]; · iexact Hs
  iintro ⟨Hx, Hs⟩
  iapply (wp_round m K d 0 1 4 0 rfl rfl rfl)
  isplitr; · iexact Hn
  isplitl [Hs]; · iexact Hs
  iintro Hs
  iapply (wp_round m K d 1 2 8 1 rfl rfl rfl)
  isplitr; · iexact Hn
  isplitl [Hs]; · iexact Hs
  iintro Hs
  iapply (wp_round m K d 2 3 12 2 rfl rfl rfl)
  isplitr; · iexact Hn
  isplitl [Hs]; · iexact Hs
  iintro Hs
  ihave Ho := (out_early m d) $$ Ho
  unfold runs
  rw [wp_bind]
  iapply (last_at m K d 0 16 rfl)
  isplitr; · iexact Hn
  isplitl [Hs]; · iexact Hs
  isplitl [Ho]; · iexact Ho
  iintro ⟨Hs, Ho⟩
  rw [wp_bind]
  iapply (last_at m K d 1 17 rfl)
  isplitr; · iexact Hn
  isplitl [Hs]; · iexact Hs
  isplitl [Ho]; · iexact Ho
  iintro ⟨Hs, Ho⟩
  rw [wp_bind]
  iapply (last_at m K d 2 18 rfl)
  isplitr; · iexact Hn
  isplitl [Hs]; · iexact Hs
  isplitl [Ho]; · iexact Ho
  iintro ⟨Hs, Ho⟩
  iapply (last_at m K d 3 19 rfl)
  isplitr; · iexact Hn
  isplitl [Hs]; · iexact Hs
  isplitl [Ho]; · iexact Ho
  iintro ⟨Hs, Ho⟩
  iapply Hk
  isplitl [Hx]; · iexact Hx
  isplitl [Hw1]; · iexact Hw1
  isplitl [Hw2]; · iexact Hw2
  isplitl [Hs]; · iexact Hs
  isplitl [Hz]; · iexact Hz
  iexact Ho

/-! ## The result -/

/-- Where an element of the result lies in its chunk. -/
def inChunk (i : S256x256.Idx) : S64x256.Idx := ix2 ⟨(i 0).val % 64, Nat.mod_lt _ (by decide)⟩ ⟨(i 1).val, (i 1).isLt⟩
def chunkOf (i : S256x256.Idx) : Fin 4 := ⟨(i 0).val / 64, by have : (i 0).val < 256 := (i 0).isLt; omega⟩

/-- The result of device `d`: each chunk's sum after the four steps. -/
def outAt (d : Dev nD) : FVec F S256x256 .f32 := fun i => acc m (chunkOf i) 4 d (inChunk i)

theorem chunk_at (i : S256x256.Idx) : (rowsR (chunkOf i)).idx (inChunk i) = i := by
  funext a
  apply Fin.ext
  fin_cases a
  · show 64 * ((i 0).val / 64) + 1 * ((i 0).val % 64) = (i 0).val
    omega
  · show 0 + 1 * (i 1).val = (i 1).val
    omega

/-- A result whose four chunks are in place is the result. -/
theorem out_all (d : Dev nD) (f : FVec F S256x256 .f32) (h : ∀ c, rowsOf c f = acc m c 4 d) : f = outAt m d := by
  funext i
  unfold outAt
  rw [← h, rowsOf_apply, chunk_at]

theorem out_end (d : Dev nD) : outOwn m d 20 ⊢ ((d : Thread nD τ).loc cc0_stg3_0) ↦{fullShare} outAt m d := by
  unfold outOwn
  iintro ⟨%f, %hf, H⟩
  rw [← out_all m d f fun c => hf c (by
    have := c.isLt; have : ((3 : Fin 4) : ℕ) = 3 := rfl; unfold tick; dsimp only; omega)]
  iexact H

/-- At the end all the exchanges are over and nothing is owed. -/
theorem state_end (d : Dev nD) :
    state (F := F) d 20 ⊢ iprop((bigSep Finset.univ fun x : Xch => over (F := F) d x) ∗ ∃ W : Waits sig Unit, owes (d : Thread nD τ) 0 W) := by
  unfold state owing
  rw [owe_end d 20 (by decide), bigSep_congr fun x _ => phase_over (F := F) (d := d) (t := 20) (x := x)
    (by have := x.1.isLt; have := x.2.isLt; unfold tick; omega)]

/-! ## The exchange buffer, cut into its slots -/

/-- A slot named by its exchange: the one sent from, or the one landed in. -/
def cut (x : Xch ⊕ Xch) : Fin 4 × Fin 8 := x.elim (fun x => (x.1, srcK x.2)) (fun x => (x.1, dstK x.2))

theorem cut_inj : ∀ x y, x ≠ y → (cut x).1 ≠ (cut y).1 ∨ (cut x).2 ≠ (cut y).2 := by decide

abbrev commLoc (d : Dev nD) : Loc nD τ sig := (d : Thread nD τ).loc cc0_scratch0

def cutSet (d : Dev nD) (x : Xch ⊕ Xch) : Finset (Idx (commLoc d)) := (slotM (cut x).1 (cut x).2).view.set

theorem cut_disjoint (d : Dev nD) (x y : Xch ⊕ Xch) (h : x ≠ y) : Disjoint (cutSet d x) (cutSet d y) := by
  unfold cutSet
  rw [slot_set, slot_set]
  refine (Finset.disjoint_map _).mpr ?_
  have ne {n : ℕ} (a b : Fin n) (h : a ≠ b) : a.val + 1 ≤ b.val ∨ b.val + 1 ≤ a.val := by
    have := fun e => h (Fin.ext e); omega
  rcases cut_inj x y h with h | h
  · exact Rect.unit_disjoint 0 (ne _ _ h)
  · exact Rect.unit_disjoint 1 (ne _ _ h)

theorem slot_open (d : Dev nD) (c : Fin 4) (k : Fin 8) :
    slotEx (F := F) d c k ⊢ iprop(∃ f, (commLoc d) ↦[(slotM c k).view.set]{fullShare} f) := by
  unfold slotEx slotAt owns
  iintro ⟨%X, %f, -, H⟩
  iexists f; iexact H
theorem slot_close (d : Dev nD) (c : Fin 4) (k : Fin 8) :
    iprop(∃ f, (commLoc d) ↦[(slotM c k).view.set]{fullShare} f) ⊢ slotEx (F := F) d c k := by
  unfold slotEx slotAt owns
  iintro ⟨%f, H⟩
  iexists _; iexists f
  isplitr
  · ipureintro; rfl
  iexact H

/-- What the slots leave of the exchange buffer. -/
def leftover (d : Dev nD) : sProp 𝕄 := iprop(∃ f, (commLoc d) ↦[Ring.restOf (cutSet d)]{fullShare} f)

theorem comm_split (d : Dev nD) :
    iprop(∃ f, (commLoc d) ↦{fullShare} f) ⊢ (iprop(((bigSep Finset.univ fun x : Xch => slotEx (F := F) d x.1 (srcK x.2))
      ∗ (bigSep Finset.univ fun x : Xch => slotEx (F := F) d x.1 (dstK x.2))) ∗ leftover (F := F) d) : sProp 𝕄) := by
  refine (Ring.fam_split_ex (cutSet d) (cut_disjoint d)).trans ?_
  unfold leftover
  refine sep_mono_left ?_
  rw [BI.bigSep_univ_sum]
  exact BI.sep_mono (bigSep_mono fun x _ => slot_close d x.1 (srcK x.2)) (bigSep_mono fun x _ => slot_close d x.1 (dstK x.2))

theorem comm_join (d : Dev nD) :
    (iprop(((bigSep Finset.univ fun x : Xch => slotEx (F := F) d x.1 (srcK x.2))
      ∗ (bigSep Finset.univ fun x : Xch => slotEx (F := F) d x.1 (dstK x.2))) ∗ leftover (F := F) d) : sProp 𝕄)
      ⊢ iprop(∃ f, (commLoc d) ↦{fullShare} f) := by
  unfold leftover
  iintro ⟨H, ⟨%g, Hr⟩⟩
  iapply (Ring.fam_join (cutSet d) (cut_disjoint d) g)
  isplitl [H]
  · iapply ((BIClass.sep_mono (bigSep_mono (s := Finset.univ) fun (x : Xch) _ => slot_open (F := F) d x.1 (srcK x.2))
      (bigSep_mono (s := Finset.univ) fun (x : Xch) _ => slot_open (F := F) d x.1 (dstK x.2))).trans
      (Entails.of_eq (BI.bigSep_univ_sum (fun x : Xch ⊕ Xch => iprop(∃ f, (commLoc d) ↦[cutSet d x]{fullShare} f : sProp 𝕄))).symm))
    iexact H
  iexists g; iexact Hr

end Cert.KernelIdeal.Reduce

end
-- ==== Proof.Launch.lean ====
/-
  The launch: the sixteen devices' bodies put together into one run of the program.
-/
module

public import proofs.«01_k».proof.Proof.Body
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs
public import Idealize.ShloMosaic.Lib.Pipeline.ValueKit.Geometry
public import Idealize.ShloMosaic.Lib.Tactic

@[expose] public section

noncomputable section

namespace Cert.KernelIdeal.Reduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The state at launch: memory `m`, every counter zero. -/
def s₀ : MemSt nD τ sig (Elt F) := ⟨m, fun _ => 0, ρ⟩

/-! ## What a device starts and ends with -/

/-- An exchange's places, tokens and credit. -/
def awaiting (d : Dev nD) (x : Xch) : sProp 𝕄 :=
  iprop(atPos EX (sendCell d x) 0 ∅ 0 ∗ atPos EX (recvCell d x) 0 ∅ 0
    ∗ dutyTok EX (sendCell d x) 0 (0 : Fin 4) ∗ dutyTok EX (recvCell (mate x d) x) 0 (0 : Fin 4)
    ∗ cred (tallyAt (recvCell d x) () N))

theorem waiting_intro (d : Dev nD) (x : Xch) : iprop(awaiting (F := F) d x ∗ slotEx (F := F) d x.1 (srcK x.2)) ⊢ waiting (F := F) d x := by
  unfold awaiting waiting
  iintro ⟨⟨H1, H2, H3, H4, H5⟩, H6⟩
  isplitl [H1]; · iexact H1
  isplitl [H2]; · iexact H2
  isplitl [H3]; · iexact H3
  isplitl [H4]; · iexact H4
  isplitl [H5] <;> iassumption

def start (d : Dev nD) : sProp 𝕄 :=
  iprop(∃ K, known m K ∗ toPay (F := F) d ∗ atBarrier (F := F) d ∗ bigSep Finset.univ fun x : Xch => awaiting (F := F) d x)

/-- Before the body, -/
def Φ₀ (d : Dev nD) : sProp 𝕄 := iprop(start m d ∗ ∃ f, (commLoc d) ↦{fullShare} f)
/-- and after it. -/
def Φ₁ (d : Dev nD) : sProp 𝕄 :=
  iprop((bigSep Finset.univ fun x : Xch => over (F := F) d x) ∗ leftover (F := F) d ∗ semVal (barCell d) 0)

/-- The data of the one region: what the windows hold and what the body takes and gives. -/
def dats (_ : Fin 1) (d : Dev nD) : Dat τ (Elt F) Unit ℕ UU ℕ cfg0 d where
  A w := (s₀ m ρ).mem ((cfg0.win w).arr.view.loc (d : Thread nD τ))
  after w _ := match w with
    | ⟨0, _⟩ => xIn m d
    | ⟨1, _⟩ => w1In m d
    | ⟨2, _⟩ => w2In m d
    | ⟨3, _⟩ => outAt m d
  Φ t := match t with
    | ⟨0, _⟩ => Φ₀ m d
    | ⟨_ + 1, _⟩ => Φ₁ d
  q _ := fullShare
  owed t := match t with
    | ⟨0, _⟩ => debt d
    | ⟨_ + 1, _⟩ => 0

theorem windows (Φ : Fin cfg0.W → sProp 𝕄) :
    bigSep Finset.univ Φ = iprop(Φ (0 : Fin 4) ∗ Φ (1 : Fin 4) ∗ Φ (2 : Fin 4) ∗ Φ (3 : Fin 4)) := bigSep_W0 Φ

/-- A whole buffer that reads as `X` is held at `X`. -/
theorem owns_buffer (d : Dev nD) (b : Ref sig .tc) (X : b.ty.Contents (Elt F)) :
    (owns (Ix := Unit) (Name := ℕ) (U := UU) (Lvl := ℕ) (d : Thread nD τ) (Memref.whole b) fullShare X : sProp 𝕄)
      = iprop(∃ f : Buf (Elt F) ((d : Thread nD τ).loc b), ⌜f = X⌝ ∗ (((d : Thread nD τ).loc b) ↦{fullShare} f)) := by
  unfold owns; simp only [Memref.view_whole, View.read_whole, View.set_whole]

/-! ## The body's obligation -/

/-- A staged buffer known to hold `X`. -/
abbrev staged (d : Dev nD) (b : Ref sig .tc) (X : b.ty.Contents (Elt F)) : sProp 𝕄 :=
  iprop(∃ f : Buf (Elt F) ((d : Thread nD τ).loc b), ⌜f = X⌝ ∗ (((d : Thread nD τ).loc b) ↦{fullShare} f))

def before (d : Dev nD) : sProp 𝕄 :=
  iprop(Φ₀ m d ∗ (dats m ρ 0 d).owesAt () t0_0.castSucc
    ∗ (∃ g, staged d cc0_stg0_0 ((dats m ρ 0 d).before (0 : Fin 4) t0_0 g))
    ∗ (∃ g, staged d cc0_stg1_0 ((dats m ρ 0 d).before (1 : Fin 4) t0_0 g))
    ∗ (∃ g, staged d cc0_stg2_0 ((dats m ρ 0 d).before (2 : Fin 4) t0_0 g))
    ∗ (∃ g, staged d cc0_stg3_0 ((dats m ρ 0 d).before (3 : Fin 4) t0_0 g)))

def after (d : Dev nD) : sProp 𝕄 :=
  iprop(Φ₁ (F := F) d ∗ (dats m ρ 0 d).owesAt () t0_0.succ
    ∗ staged d cc0_stg0_0 (xIn m d) ∗ staged d cc0_stg1_0 (w1In m d) ∗ staged d cc0_stg2_0 (w2In m d) ∗ staged d cc0_stg3_0 (outAt m d))

theorem body_run (d : Dev nD) : before m ρ d ⊢ runs d walkP fun _ => after m ρ d := by
  unfold before Φ₀ start Dat.owesAt Pipeline.owesWithin
  rw [show (dats m ρ 0 d).owed t0_0.castSucc = debt d from rfl]
  iintro ⟨⟨⟨%K, #Hn, Hpay, Hb, Hp⟩, Hc⟩, ⟨%W, %hW, HO⟩, ⟨%i0, %g0, %h0, Hx⟩, ⟨%i1, %g1, %h1, Hw1⟩, ⟨%i2, %g2, %h2, Hw2⟩, ⟨%i3, %g3, %h3, Ho⟩⟩
  have e0 : g0 = xIn m d := by rw [h0]; unfold Dat.before; rw [if_pos (fetch0_0 t0_0)]; rfl
  have e1 : g1 = w1In m d := by rw [h1]; unfold Dat.before; rw [if_pos (fetch0_1 t0_0)]; rfl
  have e2 : g2 = w2In m d := by rw [h2]; unfold Dat.before; rw [if_pos (fetch0_2 t0_0)]; rfl
  subst e0 e1 e2
  ihave Hc := (comm_split (F := F) d) $$ Hc
  icases Hc with ⟨⟨Hs, Hd⟩, Hl⟩
  iapply (wp_walk m K d W)
  isplitr; · iexact Hn
  isplitl [HO]; · iexact HO
  isplitl [Hpay]; · iexact Hpay
  isplitl [Hd]; · iexact Hd
  isplitl [Hx]; · unfold xOwn; iexact Hx
  isplitl [Hw1]; · unfold w1Own; iexact Hw1
  isplitl [Hw2]; · unfold w2Own; iexact Hw2
  isplitl [Hp Hs]
  · iapply ((Entails.of_eq (bigSep_sep' Finset.univ (fun x : Xch => awaiting (F := F) d x)
      (fun x : Xch => slotEx (F := F) d x.1 (srcK x.2))).symm).trans (bigSep_mono fun x _ => waiting_intro d x))
    isplitl [Hp] <;> iassumption
  isplitl [Hb]; · iexact Hb
  isplitl [Ho]
  · unfold outOwn; iexists g3
    isplitr
    · ipureintro; intro c h; exact absurd h (Nat.not_lt_zero _)
    iexact Ho
  iintro ⟨Hx, Hw1, Hw2, Hs, Hz, Ho⟩
  ihave Ho := (out_end m d) $$ Ho
  ihave Hs := (state_end (F := F) d) $$ Hs
  icases Hs with ⟨Hs, ⟨%W', HO⟩⟩
  unfold after Φ₁ xOwn w1Own w2Own Dat.owesAt Pipeline.owesWithin
  rw [show (dats m ρ 0 d).owed t0_0.succ = 0 from rfl]
  isplitl [Hs Hl Hz]
  · isplitl [Hs]; · iexact Hs
    isplitl [Hl] <;> iassumption
  isplitl [HO]
  · iexists W'
    isplitr; · ipureintro; exact fun _ _ => Or.inl trivial
    iexact HO
  isplitl [Hx]
  · iexists _; isplitr; · (ipureintro; rfl)
    iexact Hx
  isplitl [Hw1]
  · iexists _; isplitr; · (ipureintro; rfl)
    iexact Hw1
  isplitl [Hw2]
  · iexists _; isplitr; · (ipureintro; rfl)
    iexact Hw2
  iexists _; isplitr; · (ipureintro; rfl)
  iexact Ho

set_option maxRecDepth 16000 in
/-- The printed body does what the region's data say of it. -/
theorem body_ok (d : Dev nD) : BodyObligation (dats (F := F) m ρ 0 d) (defs₀ (F := F)) 𝒱₀ () Set.univ := fun t => by
  rw [fin_N0 t, windows, windows]
  simp only [owns_buffer]
  show before m ρ d ⊢ runs d (cc0_body (F := F) xB (Memref.isWhole_whole _) w1B (Memref.isWhole_whole _) w2B (Memref.isWhole_whole _)
    outB (Memref.isWhole_whole _) commB (Memref.isWhole_whole _) cc0_scratch1 cc0_scratch2) fun _ => after m ρ d
  rw [body_eq_walk]
  exact body_run m ρ d

/-! ## The ghost state dealt at launch -/

theorem own_sems : Pipeline.OwnSemFacts cfg0.spec xsem where
  isScoped := by decide
  inj := xsem_inj
  disj := by decide

theorem share_full (d : Dev nD) (w : Fin cfg0.W) : (dats m ρ 0 d).share w = fullShare := by unfold Dat.share; split <;> rfl

def allCells : Finset (GSem nD τ sig) := Finset.univ.map ⟨kcell, kcell_inj⟩

/-- The duty tokens minted: four for a barrier, one for each transfer's cell. -/
abbrev tokOf (p : Dev nD × (Fin 4 ⊕ (Xch ⊕ Xch))) : GSem nD τ sig × ℕ × Fin 4 :=
  (kcell (p.1, p.2.map (fun _ => ()) id), 0, p.2.elim id fun _ => 0)

theorem tokOf_inj : Function.Injective tokOf := by
  rintro ⟨d, k⟩ ⟨d', k'⟩ h
  have h₁ := kcell_inj (congrArg Prod.fst h)
  have h₂ : k.elim id (fun _ => 0) = k'.elim id fun _ => (0 : Fin 4) := congrArg (fun x => x.2.2) h
  have hd : d = d' := congrArg Prod.fst h₁
  have hk : Sum.map (fun _ => ()) id k = Sum.map (fun _ => ()) id k' := congrArg Prod.snd h₁
  rw [hd]
  rcases k with j | k <;> rcases k' with j' | k'
  · rw [show j = j' from h₂]
  · cases hk
  · cases hk
  · rw [show k = k' from Sum.inr.inj hk]

def allToks : Finset (GSem nD τ sig × ℕ × Fin 4) := Finset.univ.map ⟨tokOf, tokOf_inj⟩

def u₀ : UU := (initOf (Pipeline.cells cfgs cellOf_inj) (Pipeline.launchToks cfgs cellOf_inj), initOf allCells allToks)

/-- The tokens of a device's own cells, -/
def toks (d : Dev nD) : sProp 𝕄 :=
  iprop((bigSep Finset.univ fun j : Fin 4 => dutyTok EX (barCell d) 0 j)
    ∗ (bigSep Finset.univ fun x : Xch => dutyTok EX (sendCell d x) 0 (0 : Fin 4))
    ∗ (bigSep Finset.univ fun x : Xch => dutyTok EX (recvCell d x) 0 (0 : Fin 4)))
/-- and of the duties it discharges. -/
def payToks (d : Dev nD) : sProp 𝕄 :=
  iprop(toPay (F := F) d
    ∗ (bigSep Finset.univ fun x : Xch => dutyTok EX (sendCell d x) 0 (0 : Fin 4))
    ∗ (bigSep Finset.univ fun x : Xch => dutyTok EX (recvCell (mate x d) x) 0 (0 : Fin 4)))

/-- Being partners is mutual, so the tokens are dealt out by it. -/
def peerE (j : Fin 4) : Dev nD ≃ Dev nD := ⟨peer j, peer j, peer_peer j, peer_peer j⟩

theorem toks_dealt : (bigSep Finset.univ fun d : Dev nD => (toks d : sProp 𝕄)) = bigSep Finset.univ fun d : Dev nD => payToks d := by
  unfold toks payToks toPay
  rw [bigSep_sep', bigSep_sep', bigSep_sep', bigSep_sep']
  congr 1
  · rw [BI.bigSep_univ_comm, BI.bigSep_univ_comm (fun (d : Dev nD) (j : Fin 4) => (dutyTok EX (barCell (peer j d)) 0 j : sProp 𝕄))]
    exact bigSep_congr fun j _ => BI.bigSep_univ_equiv (peerE j) fun d => (dutyTok EX (barCell d) 0 j : sProp 𝕄)
  · congr 1
    rw [BI.bigSep_univ_comm, BI.bigSep_univ_comm (fun (d : Dev nD) (x : Xch) => (dutyTok EX (recvCell (mate x d) x) 0 (0 : Fin 4) : sProp 𝕄))]
    exact bigSep_congr fun x _ => BI.bigSep_univ_equiv (peerE (axis x.1 x.2)) fun d => (dutyTok EX (recvCell d x) 0 (0 : Fin 4) : sProp 𝕄)

def G (d : Dev nD) : sProp 𝕄 :=
  iprop((bigSep Finset.univ fun k : Cells => roundState EX (sched m) (kcell (d, k)) 0)
    ∗ (bigSep Finset.univ fun k : Cells => iprop(atPos EX (kcell (d, k)) 0 ∅ 0 ∗ reached EX (kcell (d, k)) 0)) ∗ toks d)

/-- The cells' invariants and that each is at its first round. -/
def records (K : Dev nD × Cells → ℕ) : sProp 𝕄 :=
  iprop((bigSep Finset.univ fun p : Dev nD × Cells => cellInv EX (sched m) (K p) (kcell p))
    ∗ bigSep Finset.univ fun p : Dev nD × Cells => reached EX (kcell p) 0)

instance records_persistent (K : Dev nD × Cells → ℕ) : BI.Persistent (records m K) := by unfold records; infer_instance

def places (d : Dev nD) : sProp 𝕄 := bigSep Finset.univ fun k : Cells => atPos EX (kcell (d, k)) 0 ∅ 0

def G' (d : Dev nD) : sProp 𝕄 := iprop(∃ K, records m K ∗ places (F := F) d ∗ payToks (F := F) d)

theorem big_unit (Φ : Unit → sProp 𝕄) : bigSep Finset.univ Φ = Φ () := bigSep_univ_eq_bigSepL [()] (by decide) (by decide) Φ

/-- A family over a device's cells, cell kind by cell kind. -/
theorem big_cells (Φ : Cells → sProp 𝕄) : bigSep Finset.univ Φ
    = iprop(Φ (.inl ()) ∗ (bigSep Finset.univ fun x : Xch => Φ (.inr (.inl x))) ∗ bigSep Finset.univ fun x : Xch => Φ (.inr (.inr x))) := by
  rw [BI.bigSep_univ_sum, BI.bigSep_univ_sum, big_unit]; rfl

theorem fund_all : BI.own (EX (initOf allCells allToks)) ⊢ (|==> bigSep Finset.univ (G m) : sProp 𝕄) := by
  have hX (Φ : GSem nD τ sig → sProp 𝕄) :
      bigSep allCells Φ = bigSep Finset.univ fun d : Dev nD => bigSep Finset.univ fun k : Cells => Φ (kcell (d, k)) := by
    unfold allCells; rw [bigSep_map, BI.bigSep_univ_prod]; rfl
  have hT : bigSep allToks (fun x => (dutyTok EX x.1 x.2.1 x.2.2 : sProp 𝕄)) = bigSep Finset.univ fun d : Dev nD => toks d := by
    unfold allToks; rw [bigSep_map, BI.bigSep_univ_prod]
    exact bigSep_congr fun d _ => by unfold toks; rw [BI.bigSep_univ_sum, BI.bigSep_univ_sum]; rfl
  iintro HX
  imod (Rounds.fund EX (sched m) allCells allToks) $$ HX with ⟨Hst, Hr, Hat, Ht⟩
  imodintro
  ihave Hst := (Entails.of_eq (hX fun g => roundState EX (sched m) g 0)) $$ Hst
  ihave Hat := (Entails.of_eq (hX fun g => atPos EX g 0 ∅ 0)) $$ Hat
  ihave Hr := (Entails.of_eq (hX fun g => reached EX g 0)) $$ Hr
  ihave Ht := (Entails.of_eq hT) $$ Ht
  unfold G; simp only [bigSep_sep']
  isplitl [Hst]; · iexact Hst
  isplitl [Hat Hr]
  · isplitl [Hat] <;> iassumption
  iexact Ht

/-- The barrier semaphore is the launch's one unscoped semaphore. -/
theorem unscoped_bar (d : Dev nD) : (unscopedSems0 d : sProp 𝕄) = semVal (barCell d) 0 := by
  unfold unscopedSems0; rw [bigSep_eq_bigSepL_of_eq [SemLoc.reg barS] (by decide) (by decide)]; rfl

theorem own_xsems (d : Dev nD) : (Pipeline.ownSems0 (Ix := Unit) (Name := ℕ) (U := UU) (Lvl := ℕ) (Val := Elt F) (τ := τ) xsem d : sProp 𝕄)
    = iprop((bigSep Finset.univ fun x : Xch => semVal (sendCell d x) 0) ∗ bigSep Finset.univ fun x : Xch => semVal (recvCell d x) 0) := by
  unfold Pipeline.ownSems0; rw [BI.bigSep_univ_sum]; rfl

/-- One device's cells get their invariants. -/
theorem device_alloc (d : Dev nD) :
    iprop(Pipeline.ownSems0 (Ix := Unit) (Name := ℕ) (U := UU) (Lvl := ℕ) (Val := Elt F) (τ := τ) xsem d ∗ unscopedSems0 d ∗ G m d)
      ⊢ |={Set.univ}=> iprop((bigSep Finset.univ fun k => iprop(∃ κ : ℕ, cellInv EX (sched m) κ (kcell (d, k))))
          ∗ (bigSep Finset.univ fun k => iprop(atPos EX (kcell (d, k)) 0 ∅ 0 ∗ reached EX (kcell (d, k)) 0)) ∗ toks d) := by
  rw [own_xsems, unscoped_bar]
  unfold G
  iintro ⟨⟨Hs, Hr⟩, Hb, Hst, Hat, Ht⟩
  imod (show iprop((bigSep Finset.univ fun k : Cells => semVal (kcell (d, k)) 0) ∗ bigSep Finset.univ fun k : Cells => roundState EX (sched m) (kcell (d, k)) 0)
      ⊢ (|={Set.univ}=> bigSep Finset.univ fun k => iprop(∃ κ : ℕ, cellInv EX (sched m) κ (kcell (d, k))) : sProp 𝕄) from by
        rw [← bigSep_sep']
        exact (bigSep_mono fun k _ => (Rounds.body_intro EX (sched m) (kcell (d, k))).trans inv_alloc).trans (bigSep_fupd _ _)) $$ [Hs Hr Hb Hst] with Hi
  · isplitr [Hst]
    · iapply (Entails.of_eq (big_cells (fun k : Cells => (semVal (kcell (d, k)) 0 : sProp 𝕄))).symm)
      isplitl [Hb]; · iexact Hb
      isplitl [Hs] <;> iassumption
    iexact Hst
  imodintro
  isplitl [Hi]; · iexact Hi
  isplitl [Hat]; · iexact Hat
  iexact Ht

/-- Something everyone may use is given to everyone. -/
theorem give_all {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem deal :
    (bigSep Finset.univ fun d : Dev nD => iprop((bigSep Finset.univ fun k => iprop(∃ κ : ℕ, cellInv EX (sched m) κ (kcell (d, k))))
          ∗ (bigSep Finset.univ fun k => iprop(atPos EX (kcell (d, k)) 0 ∅ 0 ∗ reached EX (kcell (d, k)) 0)) ∗ toks d) : sProp 𝕄)
      ⊢ bigSep Finset.univ (G' m) := by
  rw [bigSep_sep', bigSep_sep', ← BI.bigSep_univ_prod (fun p : Dev nD × Cells => iprop(∃ κ : ℕ, cellInv EX (sched m) κ (kcell p))),
    bigSep_congr (s := Finset.univ) (fun (d : Dev nD) _ => bigSep_sep' Finset.univ (fun k : Cells => (atPos EX (kcell (d, k)) 0 ∅ 0 : sProp 𝕄)) (fun k => reached EX (kcell (d, k)) 0)),
    bigSep_sep', ← BI.bigSep_univ_prod (fun p : Dev nD × Cells => (reached EX (kcell p) 0 : sProp 𝕄)), toks_dealt]
  iintro ⟨HI, ⟨Hat, #HR⟩, Ht⟩
  ihave HK := (BI.bigSep_exists_pi Finset.univ (fun (p : Dev nD × Cells) (κ : ℕ) => (cellInv EX (sched m) κ (kcell p) : sProp 𝕄))) $$ HI
  icases HK with ⟨%K, #HI⟩
  iapply (give_all (R := records m K) (Φ := fun d : Dev nD => iprop(places (F := F) d ∗ payToks (F := F) d)) fun d _ => by
    unfold G'; iintro H; iexists K; iexact H)
  isplitr
  · unfold records; isplitl; · iexact HI
    iexact HR
  rw [bigSep_sep']
  isplitl [Hat]; · unfold places; iexact Hat
  iexact Ht

theorem deal_all : (bigSep Finset.univ fun d =>
      iprop(Pipeline.ownSems0 (Ix := Unit) (Name := ℕ) (U := UU) (Lvl := ℕ) (Val := Elt F) (τ := τ) xsem d ∗ unscopedSems0 d ∗ G m d) : sProp 𝕄)
    ⊢ |={Set.univ}=> bigSep Finset.univ (G' m) :=
  ((bigSep_mono fun d _ => device_alloc m d).trans (bigSep_fupd _ _)).trans (BI.fupd_mono (deal m))

/-! ## The credits dealt at launch -/

theorem device_of {a b : Dev nD} {s t : SemLoc sig} (h : ((a : Thread nD τ), s) = ((b : Thread nD τ), t)) : a = b :=
  congrArg (fun g : GSem nD τ sig => g.1.1) h

theorem unit_owed (j : Fin 4) (e d : Dev nD) :
    (tallyAt (barCell (peer j e)) () 1 : CellTallies nD τ sig Unit) (barCell d) () = if e = peer j d then 1 else 0 := by
  rw [tallyAt_apply]
  by_cases h : e = peer j d
  · rw [if_pos h, if_pos ⟨by rw [h, peer_peer], rfl⟩]
  · rw [if_neg h, if_neg fun c => h (by rw [device_of c.1, peer_peer])]

/-- A barrier is owed a unit by each of its four partners, -/
theorem owed_bar (e d : Dev nD) : debt e (barCell d) ()
    = (if e = peer 3 d then 1 else 0) + (if e = peer 2 d then 1 else 0) + (if e = peer 1 d then 1 else 0) + (if e = peer 0 d then 1 else 0) := by
  unfold debt debt₁ debt₂ debt₃
  simp only [Pi.add_apply, Finsupp.add_apply]
  rw [unit_owed, unit_owed, unit_owed, unit_owed, show owe e 0 (barCell d) () = 0 from ?_, Nat.zero_add]
  by_contra h
  obtain ⟨x, _, hx⟩ := owe_pos (Nat.pos_of_ne_zero h)
  exact Sum.inl_ne_inr (csem_inj (show csem (.inl ()) = csem (.inr (.inr x)) from congrArg Prod.snd hx))

/-- and a receive cell a slot's credit by its exchange's partner. -/
theorem owed_recv (e d : Dev nD) (x : Xch) : debt e (recvCell d x) () = if e = mate x d then N else 0 := by
  have ne (j : Fin 4) : (tallyAt (barCell (peer j e)) () 1 : CellTallies nD τ sig Unit) (recvCell d x) () = 0 := by
    rw [tallyAt_apply, if_neg fun c => Sum.inl_ne_inr (csem_inj (show csem (.inl ()) = csem (.inr (.inr x)) from (congrArg Prod.snd c.1).symm))]
  unfold debt debt₁ debt₂ debt₃
  simp only [Pi.add_apply, Finsupp.add_apply]
  simp only [ne, Nat.add_zero]
  unfold owe
  rw [Finset.sum_apply, Finsupp.finset_sum_apply, Finset.sum_eq_single x]
  · rw [tallyAt_apply]
    by_cases h : e = mate x d
    · rw [if_pos h, if_pos ⟨by rw [h, mate_mate], rfl⟩]
    · rw [if_neg h, if_neg fun c => h (by rw [device_of c.1, mate_mate])]
  · intro y _ hy
    rw [tallyAt_apply, if_neg fun c => hy (Sum.inr.inj (Sum.inr.inj (csem_inj
      (show csem (.inr (.inr y)) = csem (.inr (.inr x)) from (congrArg Prod.snd c.1).symm))))]
  · intro h; exact absurd (Finset.mem_filter.mpr ⟨Finset.mem_univ x, Nat.zero_le _⟩) h

theorem launch_bar (d : Dev nD) :
    tallyOn (barCell d) (launchCredit (Pipeline.owing debt) 0 (barCell d)) = (tallyAt (barCell d) () 4 : CellTallies nD τ sig Unit) := by
  unfold tallyAt; refine congrArg _ (Finsupp.ext fun u => ?_); cases u
  rw [Pipeline.launchCredit_owing, Finsupp.single_eq_same, Finset.sum_congr rfl fun e _ => owed_bar e d]
  simp only [Finset.sum_add_distrib, Finset.sum_ite_eq', Finset.mem_univ, if_true]

theorem launch_recv (d : Dev nD) (x : Xch) :
    tallyOn (recvCell d x) (launchCredit (Pipeline.owing debt) 0 (recvCell d x)) = (tallyAt (recvCell d x) () N : CellTallies nD τ sig Unit) := by
  unfold tallyAt; refine congrArg _ (Finsupp.ext fun u => ?_); cases u
  rw [Pipeline.launchCredit_owing, Finsupp.single_eq_same, Finset.sum_congr rfl fun e _ => owed_recv e d x]
  simp only [Finset.sum_ite_eq', Finset.mem_univ, if_true]

theorem credits (d : Dev nD) : (Pipeline.launchCred debt d : sProp 𝕄)
    ⊢ iprop(cred (tallyAt (barCell d) () 4) ∗ bigSep Finset.univ fun x : Xch => cred (tallyAt (recvCell d x) () N)) := by
  unfold Pipeline.launchCred
  refine (BI.bigSep_subset (Finset.subset_univ (Finset.univ.map ⟨csem, csem_inj⟩))).trans ?_
  rw [bigSep_map, big_cells]
  show iprop(cred (tallyOn (barCell d) (launchCredit (Pipeline.owing debt) 0 (barCell d)))
    ∗ (bigSep Finset.univ fun x : Xch => cred (tallyOn (sendCell d x) (launchCredit (Pipeline.owing debt) 0 (sendCell d x))))
    ∗ bigSep Finset.univ fun x : Xch => cred (tallyOn (recvCell d x) (launchCredit (Pipeline.owing debt) 0 (recvCell d x)))) ⊢ _
  iintro ⟨Hb, -, Hr⟩
  isplitl [Hb]
  · rw [← launch_bar]; iexact Hb
  simp only [← launch_recv]
  iexact Hr

/-! ## The side conditions -/

theorem start_intro (d : Dev nD) :
    iprop(Pipeline.unscopedRestP Pipeline.Prefetch.none cfg0.spec d (fun b => m ((d : Thread nD τ).loc b)) ∗ levAts L lv
        ∗ Pipeline.launchCred debt d ∗ prngReg d (ρ d) ∗ G' m d)
      ⊢ |={Set.univ}=> iprop(start m d ∗ emp) := by
  unfold G' places records
  rw [big_cells]
  iintro ⟨-, #Hl, Hc, -, ⟨%K, ⟨#HI, #HR⟩, ⟨Hb, Hs, Hr⟩, Ht⟩⟩
  ihave Hc := (credits (F := F) d) $$ Hc
  icases Hc with ⟨Hcb, Hcr⟩
  unfold payToks
  icases Ht with ⟨Hp, HtS, HtR⟩
  imodintro
  isplitl
  · unfold start
    iexists K
    isplitr
    · unfold known
      isplitr; · iexact HI
      isplitr; · iexact HR
      iexact Hl
    isplitl [Hp]; · iexact Hp
    isplitl [Hb Hcb]
    · unfold atBarrier; isplitl [Hb] <;> iassumption
    unfold awaiting
    simp only [bigSep_sep']
    isplitl [Hs]; · iexact Hs
    isplitl [Hr]; · iexact Hr
    isplitl [HtS]; · iexact HtS
    isplitl [HtR] <;> iassumption
  · iempintro

theorem enter (d : Dev nD) :
    iprop(start m d ∗ Pipeline.prefHeld Pipeline.Prefetch.none d (fun _ => fullShare.right) (fun k => k.elim0) ∗ Pipeline.scopedRest cfg0.spec d)
      ⊢ (dats m ρ 0 d).Φ 0 := by
  rw [show (dats m ρ 0 d).Φ 0 = Φ₀ m d from rfl, scopedRest0_eq]
  unfold Φ₀
  iintro ⟨Hs, -, Hr⟩
  isplitl [Hs]; · iexact Hs
  iexact Hr

theorem leave (d : Dev nD) :
    (dats m ρ 0 d).Φ (Fin.last cfg0.N) ⊢ iprop(unscopedSems0 d ∗ Pipeline.ownSems0 xsem d ∗ Pipeline.scopedRest cfg0.spec d) := by
  rw [show (dats m ρ 0 d).Φ (Fin.last cfg0.N) = Φ₁ d from rfl, scopedRest0_eq, own_xsems, unscoped_bar]
  unfold Φ₁ over
  simp only [bigSep_sep']
  iintro ⟨⟨Hs, Hd, Hz, Hz'⟩, Hl, Hb⟩
  isplitl [Hb]; · iexact Hb
  isplitl [Hz Hz']
  · isplitl [Hz] <;> iassumption
  iapply (comm_join (F := F) d)
  isplitr [Hl]
  · isplitl [Hs] <;> iassumption
  iexact Hl

theorem stages_apart (w : Fin cfg0.W) (s : Fin (cfg0.win w).nbuf) : ∀ k, csem k ≠ .dma ((cfg0.win w).sem s) := by
  rintro (_ | k)
  · intro h; cases h
  · exact own_sems.disj k w s

theorem waits (d : Dev nD) : (levAts L lv : sProp 𝕄) ⊢ Pipeline.cellsWaits cfgs (dats m ρ) () 0 d :=
  Pipeline.cellsWaits_intro cfgs (dats m ρ) () 0 d fun w s t =>
    mayWait_stage d _ (stages_apart w s) _ (by
      rcases t with ⟨_ | _, ht⟩
      · exact Or.inl rfl
      · exact Or.inr rfl)

/-! ## The run -/

/-- What the arrays hold at the end. -/
def finalA (d : Dev nD) (w : Fin cfg0.W) : Buf (Elt F) ((cfg0.win w).arr.view.loc (d : Thread nD τ)) := (dats m ρ 0 d).arrAt w cfg0.N

set_option maxRecDepth 8000 in
/-- From any memory with all counters zero every run ends, with the arrays at `finalA` and all counters zero again. -/
theorem run_main : θ_run defs (onTc (τ := τ) (main (F := F))) (s₀ m ρ) (fun r =>
    (∀ d : Dev nD, ∀ w : Fin cfg0.W, r.2.mem ((cfg0.win w).arr.view.loc (d : Thread nD τ)) = finalA m ρ d w) ∧ r.2.sem = fun _ => 0) :=
  Pipeline.θ_run_region_owing_glob_pf (fun p => (cfgs p).toPCfg) (fun p => (cfgs p).toPCfg_adm) (dats m ρ) () cellOf_inj (0 : Fin 1)
    winFacts0.to₀ own_sems (Pipeline.PreFacts.none _) EP defs₀ 𝒱₀ m ρ main
    (hmain := fun _ => rfl)
    (hbody := body_ok m ρ) (hne := fun w => by fin_cases w <;> exact Nat.succ_pos _) (harr := arr_whole0) (hstage := stage_whole0) (hshare := share_full m ρ)
    (hdistinct := winFacts0.arr_inj)
    (O₀ := debt) (howed₀ := fun _ => rfl) (howedN := fun _ => rfl)
    (L := L) (lv := lv) (hL := L_other) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := deal_all m)
    (hA := fun _ _ => rfl) (hpf := fun _ k => k.elim0)
    (X := start m) (Y := fun d => unscopedSems0 d) (Z := fun _ => iprop(emp))
    (hX := start_intro m ρ) (hin := enter m ρ) (hout := leave m ρ)
    (QY := fun d s => ∀ sm : SemLoc sig, sm.isScoped .tc = false → s.sem ((d.tc : Thread nD τ), sm) = 0)
    (hY := fun d s' => by
      iintro ⟨Hu, -, HSI⟩
      iapply (Pipeline.unscopedSems0_read (X := unscopedSems0 d) (c := d) fupd_intro s')
      isplitl [Hu] <;> iassumption)
    (hQ := fun _ h hs => ⟨fun d w => (h d).1 w, sem_eq_zero hs fun d => (h d).2.2⟩)

/-- The inputs end as they began, -/
theorem finalA_0 (d : Dev nD) : finalA m ρ d (0 : Fin 4) = m (win0_0.arr.view.loc (d : Thread nD τ)) := (dats m ρ 0 d).arrAt_in (0 : Fin 4) rfl _
theorem finalA_1 (d : Dev nD) : finalA m ρ d (1 : Fin 4) = m (win0_1.arr.view.loc (d : Thread nD τ)) := (dats m ρ 0 d).arrAt_in (1 : Fin 4) rfl _
theorem finalA_2 (d : Dev nD) : finalA m ρ d (2 : Fin 4) = m (win0_2.arr.view.loc (d : Thread nD τ)) := (dats m ρ 0 d).arrAt_in (2 : Fin 4) rfl _

/-- The result array ends at the result. -/
theorem finalA_3 (d : Dev nD) : finalA m ρ d (3 : Fin 4) = outAt m d :=
  (dats m ρ 0 d).arrAt_eq_of_after_last (3 : Fin 4) t0_0 (by decide +kernel) (outAt m d) (fun j => rfl) (Memref.isWhole_whole _)

end Cert.KernelIdeal.Reduce

end
-- ==== Proof.Value.lean ====
/-
  What the sixteen devices compute: after the four exchanges every device holds the sum of all sixteen parts, and
  that sum is the reference's product, whose inner index is cut into sixteen blocks.
-/
module

public import proofs.«01_k».proof.Defs
public import proofs.«01_k».proof.Proof.Launch
public import proofs.«01_k».proof.Proof.Gen.ReferenceIdeal.Run
public import Idealize.ShloMosaic.Lib.MatmulPlain
public import Idealize.ShloMosaic.Lib.StackMember
public import Idealize.ShloMosaic.Lib.Pointwise.Sums

@[expose] public section

noncomputable section

namespace Cert.KernelIdeal.Reduce

open Cert.KernelIdeal Cert.KernelIdeal.Gen
open Idealize.ShloMosaic hiding ix2
open Idealize.ShloMosaic.TcCoe Idealize.ShloMosaic.ValueIdx
open Idealize.SL.Sem
open scoped BigOperators

/-! ## Four exchanges sum over the sixteen devices -/

section Sum

variable {M : Type} [AddCommMonoid M] (f : Dev nD → M) (c : Fin 4)

/-- The running sums of numbers `f`, one on each device, after each exchange of chunk `c`. -/
def running : ℕ → Dev nD → M
  | 0, d => f d
  | n + 1, d => running n d + running n (mate (c, Fin.ofNat 4 n) d)

/-- The device itself, or its partner at step `n`. -/
def side (n : ℕ) (b : Bool) (d : Dev nD) : Dev nD := if b then mate (c, Fin.ofNat 4 n) d else d

theorem running_succ (n : ℕ) (d : Dev nD) : running f c (n + 1) d = ∑ b : Bool, running f c n (side c n b d) := by
  rw [Fintype.sum_bool, running, add_comm]; rfl

/-- The device reached from `d` by taking the partner's side at the steps marked in `b`, last step first. -/
def reach (d : Dev nD) (b : Bool × Bool × Bool × Bool) : Dev nD :=
  side c 0 b.2.2.2 (side c 1 b.2.2.1 (side c 2 b.2.1 (side c 3 b.1 d)))

/-- Different choices reach different devices. -/
theorem reach_injective : ∀ (c : Fin 4) (d : Dev nD) (b b' : Bool × Bool × Bool × Bool), reach c d b = reach c d b' → b = b' := by
  decide +kernel

/-- After four exchanges every device holds the sum over all devices. -/
theorem running_four (d : Dev nD) : running f c 4 d = ∑ e : Dev nD, f e := by
  have hb : Function.Bijective (reach c d) :=
    (Fintype.bijective_iff_injective_and_card _).2 ⟨fun b b' => reach_injective c d b b', rfl⟩
  rw [← Fintype.sum_bijective (reach c d) hb (fun b => f (reach c d b)) f fun _ => rfl]
  simp only [running_succ, Fintype.sum_prod_type]
  rfl

end Sum

/-! ## The kernel's result, element by element -/

section Part

/-- One entry of a product onto zeros. -/
theorem product_apply {A B C : ℕ} {φ₁ φ₂ : FTy} (lhs : FVec Ideal ⟨2, ![A, B]⟩ φ₁) (rhs : FVec Ideal ⟨2, ![B, C]⟩ φ₂)
    (r : Fin A) (q : Fin C) :
    matmul (DotDims.plain A B C) none lhs rhs (constant ⟨2, ![A, C]⟩ .f32 0x00000000#32) (ix2 r q)
      = ∑ k : Fin B, (lhs (ix2 r k) : EReal) * rhs (ix2 k q) := by
  refine (Ideal.matmul_plain_apply none lhs rhs _ r q).trans ?_
  rw [show (constant (F := Ideal) ⟨2, ![A, C]⟩ .f32 0x00000000#32) (ix2 r q) = (0 : EReal) from Ideal.ofBits_zero_f32, zero_add]

/-- One entry of a device's part: a product over its 512 inner columns. -/
theorem partialOf_apply (w1 : FVec Ideal S256x512 .f32) (w2 : FVec Ideal S512x256 .f32) (x : FVec Ideal S64x256 .f32)
    (r : Fin 64) (q : Fin 256) :
    partialOf w1 w2 x (ix2 r q)
      = ∑ k : Fin 512, max (∑ j : Fin 256, (x (ix2 r j) : EReal) * w1 (ix2 j k)) 0 * w2 (ix2 k q) := by
  unfold partialOf
  rw [shapeCast_self, shapeCast_self, shapeCast_self]
  refine (product_apply (A := 64) (B := 512) (C := 256) _ _ r q).trans ?_
  refine Finset.sum_congr rfl fun k _ => ?_
  refine congrArg₂ (fun a b : EReal => max a b * w2 (ix2 k q)) ?_ Ideal.ofBits_zero_f32
  exact product_apply (A := 64) (B := 256) (C := 512) _ _ r k

end Part

variable (m : (ℓ : Loc nD τ sig) → Buf (Elt Ideal) ℓ) (ρ : Dev nD → PrngReg)

/-- Every chunk's finished sum is the sum of the devices' parts. -/
theorem acc_four (c : Fin 4) (d : Dev nD) (j : S64x256.Idx) : acc m c 4 d j = ∑ e : Dev nD, acc m c 0 e j := by
  rw [← running_four (fun e => acc m c 0 e j) c d]
  have h : ∀ (n : ℕ) (e : Dev nD), acc m c n e j = running (fun e => acc m c 0 e j) c n e := by
    intro n
    induction n with
    | zero => intro e; rfl
    | succ n ih =>
      intro e
      rw [running, ← ih, ← ih]
      rfl
  exact h 4 d

/-- The windows' blocks are the whole arrays: what the body reads of `x`, -/
theorem xIn_eq (d : Dev nD) : xIn m d = m ((d : Thread nD τ).loc main_arg0) :=
  Memref.read_access_unit_zero (Elt Ideal) main_arg0 (funext fun a => by fin_cases a <;> rfl) _ _
/-- of the first weights, -/
theorem w1In_eq (d : Dev nD) : w1In m d = m ((d : Thread nD τ).loc main_arg1) :=
  Memref.read_access_unit_zero (Elt Ideal) main_arg1 (funext fun a => by fin_cases a <;> rfl) _ _
/-- and of the second. -/
theorem w2In_eq (d : Dev nD) : w2In m d = m ((d : Thread nD τ).loc main_arg2) :=
  Memref.read_access_unit_zero (Elt Ideal) main_arg2 (funext fun a => by fin_cases a <;> rfl) _ _

/-- A row of a chunk is the row of `x` it was cut from. -/
theorem row_at (i : S256x256.Idx) (j : Fin 256) :
    (rowsR (chunkOf i)).idx (ix2 ⟨(i 0).val % 64, Nat.mod_lt _ (by decide)⟩ j) = ix2 (i 0) j := by
  funext a
  apply Fin.ext
  fin_cases a
  · show 64 * ((i 0).val / 64) + 1 * ((i 0).val % 64) = (i 0).val
    omega
  · show 0 + 1 * j.val = j.val
    omega

/-- The two-layer product of one entry, over the inner columns numbered by `I`. -/
def entry {n : ℕ} (x : FVec Ideal S256x256 .f32) (w1 : FVec Ideal ⟨2, ![256, n]⟩ .f32) (w2 : FVec Ideal ⟨2, ![n, 256]⟩ .f32)
    (r q : Fin 256) (k : Fin n) : EReal :=
  max (∑ j : Fin 256, (x (ix2 r j) : EReal) * w1 (ix2 j k)) 0 * w2 (ix2 k q)

/-- One entry of the result of device `d`: the sum over all devices of their products. -/
theorem outAt_apply (d : Dev nD) (i : S256x256.Idx) :
    outAt m d i = ∑ e : Dev nD, ∑ k : Fin 512, entry (m ((e : Thread nD τ).loc main_arg0)) (m ((e : Thread nD τ).loc main_arg1))
      (m ((e : Thread nD τ).loc main_arg2)) (i 0) (i 1) k := by
  rw [outAt, acc_four]
  refine Finset.sum_congr rfl fun e _ => ?_
  rw [acc, w1In_eq, w2In_eq, xIn_eq]
  refine (partialOf_apply _ _ _ _ _).trans ?_
  simp only [rowsOf_apply, row_at]
  rfl

/-! ## The reference -/

/-- One entry of the reference's product, over all 8192 inner columns. -/
theorem reference_apply (x : FVec Ideal S256x256 .f32) (w1 : FVec Ideal ⟨2, ![256, 8192]⟩ .f32) (w2 : FVec Ideal ⟨2, ![8192, 256]⟩ .f32)
    (r q : Fin 256) :
    Host.dotGeneral Cert.ReferenceIdeal.dot_S256x8192_S8192x256_S256x256_1_0_0_1_n_n none
      (maximumf (Host.dotGeneral Cert.ReferenceIdeal.dot_S256x256_S256x8192_S256x8192_1_0_0_1_n_n none x w1)
        (broadcastInDim Cert.ReferenceIdeal.S256x8192 ![] Cert.ReferenceIdeal.Gen.facts.bcast_S_S256x8192
          (constant Cert.ReferenceIdeal.S_ .f32 0x00000000#32))) w2 (ix2 r q)
      = ∑ k : Fin 8192, entry x w1 w2 r q k := by
  refine (StackMember.dotGeneral_plain_apply (m := 256) (k := 8192) (n := 256) none _ w2 r q).trans ?_
  refine Finset.sum_congr rfl fun k _ => ?_
  refine congrArg₂ (fun a b : EReal => max a b * w2 (ix2 k q)) ?_ Ideal.ofBits_zero_f32
  exact StackMember.dotGeneral_plain_apply (m := 256) (k := 256) (n := 8192) none x w1 r k

/-- The inner columns of the whole, block by block. -/
theorem entry_blocks (x : FVec Ideal S256x256 .f32) (w1 : FVec Ideal ⟨2, ![256, 8192]⟩ .f32) (w2 : FVec Ideal ⟨2, ![8192, 256]⟩ .f32)
    (r q : Fin 256) :
    ∑ k : Fin 8192, entry x w1 w2 r q k
      = ∑ e : Fin 16, ∑ k : Fin 512, entry x (Layout.block ⟨2, ![256, 512]⟩ ⟨2, ![256, 8192]⟩ 1 16 e w1)
          (Layout.block ⟨2, ![512, 256]⟩ ⟨2, ![8192, 256]⟩ 0 16 e w2) r q k := by
  refine (Idealize.ShloMosaic.Fin.sum_univ_tiles 16 512 rfl _).trans ?_
  refine Finset.sum_congr rfl fun e _ => Finset.sum_congr rfl fun k _ => ?_
  unfold entry
  simp only [Layout.block_apply]
  have h1 : ∀ (h : Layout.Tiles ⟨2, ![256, 512]⟩ ⟨2, ![256, 8192]⟩ 1 16) (j : Fin 256) (hk : e.val * 512 + k.val < 8192),
      h.idx e (ix2 j k) = ix2 j ⟨e.val * 512 + k.val, hk⟩ := fun h j hk => by
    funext a; apply Fin.ext; fin_cases a <;> rfl
  have h2 : ∀ (h : Layout.Tiles ⟨2, ![512, 256]⟩ ⟨2, ![8192, 256]⟩ 0 16) (hk : e.val * 512 + k.val < 8192),
      h.idx e (ix2 k q) = ix2 ⟨e.val * 512 + k.val, hk⟩ q := fun h hk => by
    funext a; apply Fin.ext; fin_cases a <;> rfl
  have hk : e.val * 512 + k.val < 8192 := by omega
  simp only [h1 _ _ hk, h2 _ hk]

end Cert.KernelIdeal.Reduce

end
-- ==== Proof.lean ====
/-
  The proof of the five claims.

  The kernel and its idealization have the same text, so their run is proved once, over any float values, and read
  at the bit patterns for the one and at the extended reals for the other. The reference is a program of host
  operations. The result of both is compared entry by entry.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem
open Cert.KernelIdeal.Reduce (run_main finalA_0 finalA_1 finalA_2 finalA_3 outAt outAt_apply reference_apply entry_blocks)

/-- Over any float values the kernel ends with every device's result at `outAt`, its arguments unchanged, and every
    counter zero. -/
theorem kernel_run {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_v1) = outAt m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run Cert.KernelIdeal.defs _ _).mono
    (fun _ h => ⟨fun c => ⟨(h.1 c (3 : Fin 4)).trans (finalA_3 m ρ c), (h.1 c (0 : Fin 4)).trans (finalA_0 m ρ c),
      (h.1 c (1 : Fin 4)).trans (finalA_1 m ρ c), (h.1 c (2 : Fin 4)).trans (finalA_2 m ρ c)⟩, h.2⟩)
    (run_main (F := F) m ρ)

/-- The kernel at the extended reals ends with its arguments unchanged and every counter zero. -/
theorem frame_ideal : Cert.quiescent_KernelIdeal := fun m ρ _ =>
  (θ_run Cert.KernelIdeal.defs _ _).mono (fun _ h => ⟨fun c => (h.1 c).2, h.2⟩) (kernel_run (F := Ideal) m ρ)

/-- The kernel's body table is its idealization's, -/
theorem same_bodies : Cert.Kernel.defs₀ (F := Bits) = Cert.KernelIdeal.defs₀ (F := Bits) := by
  unfold Cert.Kernel.defs₀ Cert.KernelIdeal.defs₀
  refine congrArg Defs.onTc (funext fun ℓ => funext fun a => ?_)
  obtain ⟨i, hi⟩ := ℓ
  obtain rfl : i = 0 := by omega
  rfl

/-- and so is its whole table. -/
theorem same_defs : Cert.Kernel.defs (F := Bits) = Cert.KernelIdeal.defs (F := Bits) := by
  unfold Cert.Kernel.defs Cert.KernelIdeal.defs
  rw [same_bodies]
  rfl

/-- The kernel at the bit patterns ends so too: it is the same text. -/
theorem frame_kernel : Cert.quiescent_Kernel := by
  intro m ρ _
  rw [same_defs]
  exact (θ_run Cert.KernelIdeal.defs _ _).mono (fun _ h => ⟨fun c => (h.1 c).2, h.2⟩) (kernel_run (F := Bits) m ρ)

/-- The reference ends with its arguments unchanged; it has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- At the extended reals every device of the kernel ends with the reference's result. -/
theorem result : Cert.algebraic_KernelIdeal_ReferenceIdeal := by
  intro m ρ m' ρ' _ hargs
  refine ⟨outAt m (0 : Dev Cert.KernelIdeal.nD),
    (θ_run Cert.KernelIdeal.defs _ _).mono (fun _ h c => ⟨((h.1 c).1).trans ?_, (h.1 c).2⟩) (kernel_run (F := Ideal) m ρ),
    (θ_run Cert.ReferenceIdeal.defs _ _).mono (fun _ h => ⟨((h (0 : Dev Cert.ReferenceIdeal.nD)).1).trans ?_, (h (0 : Dev Cert.ReferenceIdeal.nD)).2⟩)
      (Cert.ReferenceIdeal.Value.run (F := Ideal) m' ρ')⟩
  · funext i
    rw [outAt_apply, outAt_apply]
  · funext i
    rw [outAt_apply, ValueIdx.eq_ix2 i]
    refine (reference_apply _ _ _ (i 0) (i 1)).trans ((entry_blocks _ _ _ _ _).trans ?_)
    refine Finset.sum_congr rfl fun e _ => ?_
    rw [(hargs e).1, (hargs e).2.1, (hargs e).2.2]

theorem claim : Cert.Claim :=
  ⟨Cert.Kernel.Gen.facts, Cert.KernelIdeal.Gen.facts, Cert.ReferenceIdeal.Gen.facts,
    frame_kernel, frame_ideal, frame_reference, trivial, result⟩

end Cert.Proof

end
